-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_in_range [hPre_finite_and_in_range : Cert.Pre_finite_and_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_in_range [hPre_finite_and_in_range : Cert.Pre_finite_and_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ r.2.sem = fun _ => 0)

def quiescent_KernelIdeal_pre_finite_and_in_range [hKernelIdeal : Cert.KernelIdeal.Facts] [hPre_finite_and_in_range : Cert.Pre_finite_and_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))
      ∧ r.2.sem = fun _ => 0)

def quiescent_ReferenceIdeal_pre_finite_and_in_range [hReferenceIdeal : Cert.ReferenceIdeal.Facts] [hPre_finite_and_in_range : Cert.Pre_finite_and_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))
      ∧ r.2.sem = fun _ => 0)

def preserves_Kernel_KernelIdeal : Prop :=
  True

def algebraic_KernelIdeal_ReferenceIdeal_pre_finite_and_in_range [hKernelIdeal : Cert.KernelIdeal.Facts] [hReferenceIdeal : Cert.ReferenceIdeal.Facts] [hPre_finite_and_in_range : Cert.Pre_finite_and_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v36)) (v1 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_v37) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_v139) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_finite_and_in_range : Cert.Pre_finite_and_in_range.Facts),
    quiescent_Kernel (hKernel := hKernel)
    ∧ quiescent_KernelIdeal (hKernelIdeal := hKernelIdeal)
    ∧ quiescent_KernelIdeal_pre_finite_and_in_range (hKernelIdeal := hKernelIdeal) (hPre_finite_and_in_range := hPre_finite_and_in_range)
    ∧ quiescent_ReferenceIdeal (hReferenceIdeal := hReferenceIdeal)
    ∧ quiescent_ReferenceIdeal_pre_finite_and_in_range (hReferenceIdeal := hReferenceIdeal) (hPre_finite_and_in_range := hPre_finite_and_in_range)
    ∧ preserves_Kernel_KernelIdeal
    ∧ algebraic_KernelIdeal_ReferenceIdeal_pre_finite_and_in_range (hKernelIdeal := hKernelIdeal) (hReferenceIdeal := hReferenceIdeal) (hPre_finite_and_in_range := hPre_finite_and_in_range)
-- ==== Pre_finite_and_in_range.lean ====
abbrev S1048576x32 : Shape := ⟨2, ![1048576, 32]⟩
abbrev S128x1 : Shape := ⟨2, ![128, 1]⟩
abbrev S1048576 : Shape := ⟨1, ![1048576]⟩
abbrev S128 : Shape := ⟨1, ![128]⟩
abbrev S64x32 : Shape := ⟨2, ![64, 32]⟩
abbrev S64 : Shape := ⟨1, ![64]⟩
abbrev S64x64 : Shape := ⟨2, ![64, 64]⟩
abbrev S64x1 : Shape := ⟨2, ![64, 1]⟩
abbrev S64x128 : Shape := ⟨2, ![64, 128]⟩
abbrev S1x64 : Shape := ⟨2, ![1, 64]⟩
abbrev S1 : Shape := ⟨1, ![1]⟩
abbrev S_ : Shape := ⟨0, ![]⟩

class Facts : Prop where
  bcast_S_S128 : S_.BroadcastsInDim S128 (![] : Fin 0 → Fin S128.rank)
  bcast_S_S1048576x32 : S_.BroadcastsInDim S1048576x32 (![] : Fin 0 → Fin S1048576x32.rank)
  reducesTo_S1048576x32_S_d0_1 : S1048576x32.ReducesTo [0, 1] S_
  h_S_ : 0 < S_.numel
  bcast_S_S128x1 : S_.BroadcastsInDim S128x1 (![] : Fin 0 → Fin S128x1.rank)
  reducesTo_S128x1_S_d0_1 : S128x1.ReducesTo [0, 1] S_
  bcast_S_S64x32 : S_.BroadcastsInDim S64x32 (![] : Fin 0 → Fin S64x32.rank)
  reducesTo_S64x32_S_d0_1 : S64x32.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S64x128 : S_.BroadcastsInDim S64x128 (![] : Fin 0 → Fin S64x128.rank)
  reducesTo_S64x128_S_d0_1 : S64x128.ReducesTo [0, 1] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_

variable [Facts]

def fn_part6 {F : FTy → Type} [FloatOps F] (main_v4 : IVec S128 1) (main_v98 : IVec S_ 1) (main_v101 : IVec S1 1) (main_c_39 : IVec S_ 1) : IVec S128 1 :=
  let main_v102 : IVec S_ 1 := (fun x v => Host.reduce IntOp.andi x v reducesTo_S1_S_d0 h_S_) main_v101 main_c_39
  let main_v103 : IVec S_ 1 := andi main_v98 main_v102
  let main_v104 : IVec S128 1 := broadcastInDim S128 ![] bcast_S_S128 main_v103
  let main_v105 : IVec S128 1 := andi main_v4 main_v104
  main_v105

def fn_part5 {F : FTy → Type} [FloatOps F] (main_arg21 : FVec F S64 .f32) (main_arg22 : FVec F S1x64 .f32) (main_arg23 : FVec F S1 .f32) (main_v4 : IVec S128 1) (main_v83 : IVec S_ 1) (main_v84 : FVec F S64x64 .f32) (main_cst_32 : FVec F S_ .f32) : IVec S128 1 :=
  let main_v85 : FVec F S64x64 .f32 := broadcastInDim S64x64 ![] bcast_S_S64x64 main_cst_32
  let main_v86 : IVec S64x64 1 := cmpf .olt main_v84 main_v85
  let main_c_33 : IVec S_ 1 := constantI S_ 1 1#1
  let main_v87 : IVec S_ 1 := (fun x v => Host.reduce IntOp.andi x v reducesTo_S64x64_S_d0_1 h_S_) main_v86 main_c_33
  let main_v88 : IVec S_ 1 := andi main_v83 main_v87
  let main_v89 : FVec F S64 .f32 := Host.absf main_arg21
  let main_cst_34 : FVec F S_ .f32 := constant S_ .f32 0x7F800000#32
  let main_v90 : FVec F S64 .f32 := broadcastInDim S64 ![] bcast_S_S64 main_cst_34
  let main_v91 : IVec S64 1 := cmpf .olt main_v89 main_v90
  let main_c_35 : IVec S_ 1 := constantI S_ 1 1#1
  let main_v92 : IVec S_ 1 := (fun x v => Host.reduce IntOp.andi x v reducesTo_S64_S_d0 h_S_) main_v91 main_c_35
  let main_v93 : IVec S_ 1 := andi main_v88 main_v92
  let main_v94 : FVec F S1x64 .f32 := Host.absf main_arg22
  let main_cst_36 : FVec F S_ .f32 := constant S_ .f32 0x7F800000#32
  let main_v95 : FVec F S1x64 .f32 := broadcastInDim S1x64 ![] bcast_S_S1x64 main_cst_36
  let main_v96 : IVec S1x64 1 := cmpf .olt main_v94 main_v95
  let main_c_37 : IVec S_ 1 := constantI S_ 1 1#1
  let main_v97 : IVec S_ 1 := (fun x v => Host.reduce IntOp.andi x v reducesTo_S1x64_S_d0_1 h_S_) main_v96 main_c_37
  let main_v98 : IVec S_ 1 := andi main_v93 main_v97
  let main_v99 : FVec F S1 .f32 := Host.absf main_arg23
  let main_cst_38 : FVec F S_ .f32 := constant S_ .f32 0x7F800000#32
  let main_v100 : FVec F S1 .f32 := broadcastInDim S1 ![] bcast_S_S1 main_cst_38
  let main_v101 : IVec S1 1 := cmpf .olt main_v99 main_v100
  let main_c_39 : IVec S_ 1 := constantI S_ 1 1#1
  fn_part6 (F := F) main_v4 main_v98 main_v101 main_c_39

def fn_part4 {F : FTy → Type} [FloatOps F] (main_arg17 : FVec F S64 .f32) (main_arg18 : FVec F S64x128 .f32) (main_arg19 : FVec F S64 .f32) (main_arg20 : FVec F S64x64 .f32) (main_arg21 : FVec F S64 .f32) (main_arg22 : FVec F S1x64 .f32) (main_arg23 : FVec F S1 .f32) (main_v4 : IVec S128 1) (main_v63 : IVec S_ 1) (main_v67 : IVec S_ 1) : IVec S128 1 :=
  let main_v68 : IVec S_ 1 := andi main_v63 main_v67
  let main_v69 : FVec F S64 .f32 := Host.absf main_arg17
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64x128 .f32 := Host.absf main_arg18
  let main_cst_28 : FVec F S_ .f32 := constant S_ .f32 0x7F800000#32
  let main_v75 : FVec F S64x128 .f32 := broadcastInDim S64x128 ![] bcast_S_S64x128 main_cst_28
  let main_v76 : IVec S64x128 1 := cmpf .olt main_v74 main_v75
  let main_c_29 : IVec S_ 1 := constantI S_ 1 1#1
  let main_v77 : IVec S_ 1 := (fun x v => Host.reduce IntOp.andi x v reducesTo_S64x128_S_d0_1 h_S_) main_v76 main_c_29
  let main_v78 : IVec S_ 1 := andi main_v73 main_v77
  let main_v79 : FVec F S64 .f32 := Host.absf main_arg19
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S64x64 .f32 := Host.absf main_arg20
  let main_cst_32 : FVec F S_ .f32 := constant S_ .f32 0x7F800000#32
  fn_part5 (F := F) main_arg21 main_arg22 main_arg23 main_v4 main_v83 main_v84 main_cst_32

def fn_part3 {F : FTy → Type} [FloatOps F] (main_arg14 : FVec F S64x64 .f32) (main_arg15 : FVec F S64 .f32) (main_arg16 : FVec F S64x64 .f32) (main_arg17 : FVec F S64 .f32) (main_arg18 : FVec F S64x128 .f32) (main_arg19 : FVec F S64 .f32) (main_arg20 : FVec F S64x64 .f32) (main_arg21 : FVec F S64 .f32) (main_arg22 : FVec F S1x64 .f32) (main_arg23 : FVec F S1 .f32) (main_v4 : IVec S128 1) (main_v48 : IVec S_ 1) (main_v49 : FVec F S64 .f32) (main_v50 : FVec F S64 .f32) : IVec S128 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x64 .f32 := Host.absf main_arg14
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64 .f32 := Host.absf main_arg15
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x64 .f32 := Host.absf main_arg16
  let main_cst_24 : FVec F S_ .f32 := constant S_ .f32 0x7F800000#32
  let main_v65 : FVec F S64x64 .f32 := broadcastInDim S64x64 ![] bcast_S_S64x64 main_cst_24
  let main_v66 : IVec S64x64 1 := cmpf .olt main_v64 main_v65
  let main_c_25 : IVec S_ 1 := constantI S_ 1 1#1
  let main_v67 : IVec S_ 1 := (fun x v => Host.reduce IntOp.andi x v reducesTo_S64x64_S_d0_1 h_S_) main_v66 main_c_25
  fn_part4 (F := F) main_arg17 main_arg18 main_arg19 main_arg20 main_arg21 main_arg22 main_arg23 main_v4 main_v63 main_v67

def fn_part2 {F : FTy → Type} [FloatOps F] (main_arg8 : FVec F S64x64 .f32) (main_arg9 : FVec F S64 .f32) (main_arg12 : FVec F S64x1 .f32) (main_arg13 : FVec F S64 .f32) (main_arg14 : FVec F S64x64 .f32) (main_arg15 : FVec F S64 .f32) (main_arg16 : FVec F S64x64 .f32) (main_arg17 : FVec F S64 .f32) (main_arg18 : FVec F S64x128 .f32) (main_arg19 : FVec F S64 .f32) (main_arg20 : FVec F S64x64 .f32) (main_arg21 : FVec F S64 .f32) (main_arg22 : FVec F S1x64 .f32) (main_arg23 : FVec F S1 .f32) (main_v4 : IVec S128 1) (main_v33 : IVec S_ 1) : IVec S128 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x1 .f32 := Host.absf main_arg12
  let main_cst_16 : FVec F S_ .f32 := constant S_ .f32 0x7F800000#32
  let main_v45 : FVec F S64x1 .f32 := broadcastInDim S64x1 ![] bcast_S_S64x1 main_cst_16
  let main_v46 : IVec S64x1 1 := cmpf .olt main_v44 main_v45
  let main_c_17 : IVec S_ 1 := constantI S_ 1 1#1
  let main_v47 : IVec S_ 1 := (fun x v => Host.reduce IntOp.andi x v reducesTo_S64x1_S_d0_1 h_S_) main_v46 main_c_17
  let main_v48 : IVec S_ 1 := andi main_v43 main_v47
  let main_v49 : FVec F S64 .f32 := Host.absf main_arg13
  let main_cst_18 : FVec F S_ .f32 := constant S_ .f32 0x7F800000#32
  let main_v50 : FVec F S64 .f32 := broadcastInDim S64 ![] bcast_S_S64 main_cst_18
  fn_part3 (F := F) main_arg14 main_arg15 main_arg16 main_arg17 main_arg18 main_arg19 main_arg20 main_arg21 main_arg22 main_arg23 main_v4 main_v48 main_v49 main_v50

def fn_part1 {F : FTy → Type} [FloatOps F] (main_arg5 : FVec F S64 .f32) (main_arg6 : FVec F S64x64 .f32) (main_arg7 : FVec F S64 .f32) (main_arg8 : FVec F S64x64 .f32) (main_arg9 : FVec F S64 .f32) (main_arg12 : FVec F S64x1 .f32) (main_arg13 : FVec F S64 .f32) (main_arg14 : FVec F S64x64 .f32) (main_arg15 : FVec F S64 .f32) (main_arg16 : FVec F S64x64 .f32) (main_arg17 : FVec F S64 .f32) (main_arg18 : FVec F S64x128 .f32) (main_arg19 : FVec F S64 .f32) (main_arg20 : FVec F S64x64 .f32) (main_arg21 : FVec F S64 .f32) (main_arg22 : FVec F S1x64 .f32) (main_arg23 : FVec F S1 .f32) (main_v4 : IVec S128 1) (main_v13 : IVec S_ 1) (main_v16 : IVec S64x32 1) : IVec S128 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg12 main_arg13 main_arg14 main_arg15 main_arg16 main_arg17 main_arg18 main_arg19 main_arg20 main_arg21 main_arg22 main_arg23 main_v4 main_v33

def fn {F : FTy → Type} [FloatOps F] (main_arg0 : FVec F S1048576x32 .f32) (main_arg1 : FVec F S128x1 .f32) (main_arg2 : IVec S1048576 32) (main_arg3 : IVec S128 32) (main_arg4 : FVec F S64x32 .f32) (main_arg5 : FVec F S64 .f32) (main_arg6 : FVec F S64x64 .f32) (main_arg7 : FVec F S64 .f32) (main_arg8 : FVec F S64x64 .f32) (main_arg9 : FVec F S64 .f32) (main_arg10 : FVec F S64x64 .f32) (main_arg11 : FVec F S64 .f32) (main_arg12 : FVec F S64x1 .f32) (main_arg13 : FVec F S64 .f32) (main_arg14 : FVec F S64x64 .f32) (main_arg15 : FVec F S64 .f32) (main_arg16 : FVec F S64x64 .f32) (main_arg17 : FVec F S64 .f32) (main_arg18 : FVec F S64x128 .f32) (main_arg19 : FVec F S64 .f32) (main_arg20 : FVec F S64x64 .f32) (main_arg21 : FVec F S64 .f32) (main_arg22 : FVec F S1x64 .f32) (main_arg23 : FVec F S1 .f32) : IVec S128 1 :=
  let main_c : IVec S_ 32 := constantI S_ 32 0#32
  let main_v0 : IVec S128 32 := broadcastInDim S128 ![] bcast_S_S128 main_c
  let main_v1 : IVec S128 1 := cmpi .sge main_arg3 main_v0
  let main_c_0 : IVec S_ 32 := constantI S_ 32 8#32
  let main_v2 : IVec S128 32 := broadcastInDim S128 ![] bcast_S_S128 main_c_0
  let main_v3 : IVec S128 1 := cmpi .slt main_arg3 main_v2
  let main_v4 : IVec S128 1 := andi main_v1 main_v3
  let main_v5 : FVec F S1048576x32 .f32 := Host.absf main_arg0
  let main_cst : FVec F S_ .f32 := constant S_ .f32 0x7F800000#32
  let main_v6 : FVec F S1048576x32 .f32 := broadcastInDim S1048576x32 ![] bcast_S_S1048576x32 main_cst
  let main_v7 : IVec S1048576x32 1 := cmpf .olt main_v5 main_v6
  let main_c_1 : IVec S_ 1 := constantI S_ 1 1#1
  let main_v8 : IVec S_ 1 := (fun x v => Host.reduce IntOp.andi x v reducesTo_S1048576x32_S_d0_1 h_S_) main_v7 main_c_1
  let main_v9 : FVec F S128x1 .f32 := Host.absf main_arg1
  let main_cst_2 : FVec F S_ .f32 := constant S_ .f32 0x7F800000#32
  let main_v10 : FVec F S128x1 .f32 := broadcastInDim S128x1 ![] bcast_S_S128x1 main_cst_2
  let main_v11 : IVec S128x1 1 := cmpf .olt main_v9 main_v10
  let main_c_3 : IVec S_ 1 := constantI S_ 1 1#1
  let main_v12 : IVec S_ 1 := (fun x v => Host.reduce IntOp.andi x v reducesTo_S128x1_S_d0_1 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_arg6 main_arg7 main_arg8 main_arg9 main_arg12 main_arg13 main_arg14 main_arg15 main_arg16 main_arg17 main_arg18 main_arg19 main_arg20 main_arg21 main_arg22 main_arg23 main_v4 main_v13 main_v16
-- ==== Kernel.lean ====
abbrev S1048576x32 : Shape := ⟨2, ![1048576, 32]⟩
abbrev S128x1 : Shape := ⟨2, ![128, 1]⟩
abbrev S1048576 : Shape := ⟨1, ![1048576]⟩
abbrev S128 : Shape := ⟨1, ![128]⟩
abbrev S64x32 : Shape := ⟨2, ![64, 32]⟩
abbrev S64 : Shape := ⟨1, ![64]⟩
abbrev S64x64 : Shape := ⟨2, ![64, 64]⟩
abbrev S64x1 : Shape := ⟨2, ![64, 1]⟩
abbrev S64x128 : Shape := ⟨2, ![64, 128]⟩
abbrev S1x64 : Shape := ⟨2, ![1, 64]⟩
abbrev S1 : Shape := ⟨1, ![1]⟩
abbrev S256x1x4096 : Shape := ⟨3, ![256, 1, 4096]⟩
abbrev S32x64 : Shape := ⟨2, ![32, 64]⟩
abbrev S2x8x64 : Shape := ⟨3, ![2, 8, 64]⟩
abbrev S4096x32 : Shape := ⟨2, ![4096, 32]⟩
abbrev S1x1x4096 : Shape := ⟨3, ![1, 1, 4096]⟩
abbrev S1x8x64 : Shape := ⟨3, ![1, 8, 64]⟩
abbrev S4096x64 : Shape := ⟨2, ![4096, 64]⟩
abbrev S1x4096 : Shape := ⟨2, ![1, 4096]⟩
abbrev S8x4096 : Shape := ⟨2, ![8, 4096]⟩
abbrev S8x64 : Shape := ⟨2, ![8, 64]⟩
abbrev S1x128x1x1 : Shape := ⟨4, ![1, 128, 1, 1]⟩
abbrev S1x128x64x1 : Shape := ⟨4, ![1, 128, 64, 1]⟩
abbrev S128x64 : Shape := ⟨2, ![128, 64]⟩
abbrev S1x128x8x1 : Shape := ⟨4, ![1, 128, 8, 1]⟩
abbrev S128x8 : Shape := ⟨2, ![128, 8]⟩
abbrev S1x64x1x1 : Shape := ⟨4, ![1, 64, 1, 1]⟩
abbrev S1x64x8x1 : Shape := ⟨4, ![1, 64, 8, 1]⟩
abbrev S64x8 : Shape := ⟨2, ![64, 8]⟩
abbrev S1x1 : Shape := ⟨2, ![1, 1]⟩
abbrev S1x1x1x1 : Shape := ⟨4, ![1, 1, 1, 1]⟩
abbrev S1x1x8x1 : Shape := ⟨4, ![1, 1, 8, 1]⟩
abbrev S1x8 : Shape := ⟨2, ![1, 8]⟩
abbrev S128x128 : Shape := ⟨2, ![128, 128]⟩
abbrev S8 : Shape := ⟨1, ![8]⟩
abbrev S_ : Shape := ⟨0, ![]⟩

abbrev nBuf : Space → Nat
  | .hbm => 63
  | .vmem => 31
  | .smem => 0
  | _ => 0

abbrev bufTy : (tb : Table) → Fin (tcTables nBuf tb) → BufTy
  | .hbm, ⟨0, _⟩ => ⟨S1048576x32, .f32⟩
  | .hbm, ⟨1, _⟩ => ⟨S128x1, .f32⟩
  | .hbm, ⟨2, _⟩ => ⟨S1048576, .i32⟩
  | .hbm, ⟨3, _⟩ => ⟨S128, .i32⟩
  | .hbm, ⟨4, _⟩ => ⟨S64x32, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S64x1, .f32⟩
  | .hbm, ⟨13, _⟩ => ⟨S64, .f32⟩
  | .hbm, ⟨14, _⟩ => ⟨S64x64, .f32⟩
  | .hbm, ⟨15, _⟩ => ⟨S64, .f32⟩
  | .hbm, ⟨16, _⟩ => ⟨S64x64, .f32⟩
  | .hbm, ⟨17, _⟩ => ⟨S64, .f32⟩
  | .hbm, ⟨18, _⟩ => ⟨S64x128, .f32⟩
  | .hbm, ⟨19, _⟩ => ⟨S64, .f32⟩
  | .hbm, ⟨20, _⟩ => ⟨S64x64, .f32⟩
  | .hbm, ⟨21, _⟩ => ⟨S64, .f32⟩
  | .hbm, ⟨22, _⟩ => ⟨S1x64, .f32⟩
  | .hbm, ⟨23, _⟩ => ⟨S1, .f32⟩
  | .hbm, ⟨24, _⟩ => ⟨S256x1x4096, .i32⟩
  | .hbm, ⟨25, _⟩ => ⟨S32x64, .f32⟩
  | .hbm, ⟨26, _⟩ => ⟨S1x64, .f32⟩
  | .hbm, ⟨27, _⟩ => ⟨S64x64, .f32⟩
  | .hbm, ⟨28, _⟩ => ⟨S1x64, .f32⟩
  | .hbm, ⟨29, _⟩ => ⟨S64x64, .f32⟩
  | .hbm, ⟨30, _⟩ => ⟨S1x64, .f32⟩
  | .hbm, ⟨31, _⟩ => ⟨S64x64, .f32⟩
  | .hbm, ⟨32, _⟩ => ⟨S1x64, .f32⟩
  | .hbm, ⟨33, _⟩ => ⟨S2x8x64, .f32⟩
  | .hbm, ⟨34, _⟩ => ⟨S1x128x1x1, .f32⟩
  | .hbm, ⟨35, _⟩ => ⟨S1x128x64x1, .f32⟩
  | .hbm, ⟨36, _⟩ => ⟨S128x64, .f32⟩
  | .hbm, ⟨37, _⟩ => ⟨S128x1, .i32⟩
  | .hbm, ⟨38, _⟩ => ⟨S1x128x1x1, .i32⟩
  | .hbm, ⟨39, _⟩ => ⟨S1x128x8x1, .i32⟩
  | .hbm, ⟨40, _⟩ => ⟨S128x8, .i32⟩
  | .hbm, ⟨41, _⟩ => ⟨S1x64, .f32⟩
  | .hbm, ⟨42, _⟩ => ⟨S1x64, .f32⟩
  | .hbm, ⟨43, _⟩ => ⟨S64x64, .f32⟩
  | .hbm, ⟨44, _⟩ => ⟨S1x64, .f32⟩
  | .hbm, ⟨45, _⟩ => ⟨S64x64, .f32⟩
  | .hbm, ⟨46, _⟩ => ⟨S1x64, .f32⟩
  | .hbm, ⟨47, _⟩ => ⟨S128x64, .f32⟩
  | .hbm, ⟨48, _⟩ => ⟨S1x64, .f32⟩
  | .hbm, ⟨49, _⟩ => ⟨S64x64, .f32⟩
  | .hbm, ⟨50, _⟩ => ⟨S1x64, .f32⟩
  | .hbm, ⟨51, _⟩ => ⟨S64x1, .f32⟩
  | .hbm, ⟨52, _⟩ => ⟨S1x64x1x1, .f32⟩
  | .hbm, ⟨53, _⟩ => ⟨S1x64x8x1, .f32⟩
  | .hbm, ⟨54, _⟩ => ⟨S64x8, .f32⟩
  | .hbm, ⟨55, _⟩ => ⟨S1x1, .f32⟩
  | .hbm, ⟨56, _⟩ => ⟨S1x1x1x1, .f32⟩
  | .hbm, ⟨57, _⟩ => ⟨S1x1x8x1, .f32⟩
  | .hbm, ⟨58, _⟩ => ⟨S1x8, .f32⟩
  | .hbm, ⟨59, _⟩ => ⟨S1x1, .f32⟩
  | .hbm, ⟨60, _⟩ => ⟨S1x8, .f32⟩
  | .hbm, ⟨61, _⟩ => ⟨S_, .f32⟩
  | .hbm, ⟨62, _⟩ => ⟨S8, .f32⟩
  | .local _ .vmem, ⟨0, _⟩ => ⟨S4096x32, .f32⟩
  | .local _ .vmem, ⟨1, _⟩ => ⟨S4096x32, .f32⟩
  | .local _ .vmem, ⟨2, _⟩ => ⟨S1x1x4096, .i32⟩
  | .local _ .vmem, ⟨3, _⟩ => ⟨S1x1x4096, .i32⟩
  | .local _ .vmem, ⟨4, _⟩ => ⟨S32x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S64x64, .f32⟩
  | .local _ .vmem, ⟨9, _⟩ => ⟨S1x64, .f32⟩
  | .local _ .vmem, ⟨10, _⟩ => ⟨S64x64, .f32⟩
  | .local _ .vmem, ⟨11, _⟩ => ⟨S1x64, .f32⟩
  | .local _ .vmem, ⟨12, _⟩ => ⟨S1x8x64, .f32⟩
  | .local _ .vmem, ⟨13, _⟩ => ⟨S1x8x64, .f32⟩
  | .local _ .vmem, ⟨14, _⟩ => ⟨S2x8x64, .f32⟩
  | .local _ .vmem, ⟨15, _⟩ => ⟨S128x64, .f32⟩
  | .local _ .vmem, ⟨16, _⟩ => ⟨S128x8, .i32⟩
  | .local _ .vmem, ⟨17, _⟩ => ⟨S1x64, .f32⟩
  | .local _ .vmem, ⟨18, _⟩ => ⟨S1x64, .f32⟩
  | .local _ .vmem, ⟨19, _⟩ => ⟨S64x64, .f32⟩
  | .local _ .vmem, ⟨20, _⟩ => ⟨S1x64, .f32⟩
  | .local _ .vmem, ⟨21, _⟩ => ⟨S64x64, .f32⟩
  | .local _ .vmem, ⟨22, _⟩ => ⟨S1x64, .f32⟩
  | .local _ .vmem, ⟨23, _⟩ => ⟨S128x64, .f32⟩
  | .local _ .vmem, ⟨24, _⟩ => ⟨S1x64, .f32⟩
  | .local _ .vmem, ⟨25, _⟩ => ⟨S64x64, .f32⟩
  | .local _ .vmem, ⟨26, _⟩ => ⟨S1x64, .f32⟩
  | .local _ .vmem, ⟨27, _⟩ => ⟨S64x8, .f32⟩
  | .local _ .vmem, ⟨28, _⟩ => ⟨S1x8, .f32⟩
  | .local _ .vmem, ⟨29, _⟩ => ⟨S1x1, .f32⟩
  | .local _ .vmem, ⟨30, _⟩ => ⟨S1x8, .f32⟩
  | _, _ => ⟨S1048576x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35_0 : Ref sig .tc := ⟨.hbm, 59, rfl⟩
abbrev main_v35_1 : Ref sig .tc := ⟨.hbm, 60, rfl⟩
abbrev main_v36 : Ref sig .tc := ⟨.hbm, 61, rfl⟩
abbrev main_v37 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc1_stg0_0 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg9_0 : Ref sig .tc := ⟨.vmem, 23, rfl⟩
abbrev cc1_stg10_0 : Ref sig .tc := ⟨.vmem, 24, rfl⟩
abbrev cc1_stg11_0 : Ref sig .tc := ⟨.vmem, 25, rfl⟩
abbrev cc1_stg12_0 : Ref sig .tc := ⟨.vmem, 26, rfl⟩
abbrev cc1_stg13_0 : Ref sig .tc := ⟨.vmem, 27, rfl⟩
abbrev cc1_stg14_0 : Ref sig .tc := ⟨.vmem, 28, rfl⟩
abbrev cc1_stg15_0 : Ref sig .tc := ⟨.vmem, 29, rfl⟩
abbrev cc1_stg16_0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc1_sem0_0 : DmaSem sig := 14
abbrev cc1_sem1_0 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem9_0 : DmaSem sig := 23
abbrev cc1_sem10_0 : DmaSem sig := 24
abbrev cc1_sem11_0 : DmaSem sig := 25
abbrev cc1_sem12_0 : DmaSem sig := 26
abbrev cc1_sem13_0 : DmaSem sig := 27
abbrev cc1_sem14_0 : DmaSem sig := 28
abbrev cc1_sem15_0 : DmaSem sig := 29
abbrev cc1_sem16_0 : DmaSem sig := 30

abbrev nD : Nat := 1
abbrev τ : Topo := Topo.v7x

variable {F : FTy → Type} [FloatOps F]

abbrev grid0 : Pipeline.Grid := ⟨2, ![2, 128], ![false, false]⟩

def k0_cond1 (i : grid0.Coords) : BitVec 1 :=
  let arg1 : BitVec 32 := BitVec.ofNat 32 (i 1).val
  let c0_i32 : BitVec 32 := 0#32
  let v45 : BitVec 1 := Scalar.cmpi .eq arg1 c0_i32
  let v46 : BitVec 32 := Scalar.extui v45
  let c0_i32_27 : BitVec 32 := 0#32
  let v47 : BitVec 1 := Scalar.cmpi .ne v46 c0_i32_27
  v47

def k0_cond2 (i : grid0.Coords) : BitVec 1 :=
  let arg1 : BitVec 32 := BitVec.ofNat 32 (i 1).val
  let c0_i32_28 : BitVec 32 := 0#32
  let v48 : BitVec 1 := Scalar.cmpi .sgt arg1 c0_i32_28
  let v49 : BitVec 32 := Scalar.extui v48
  let c0_i32_29 : BitVec 32 := 0#32
  let v50 : BitVec 1 := Scalar.cmpi .ne v49 c0_i32_29
  v50

def cc0_transform_0 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S32x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x8x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev grid1 : Pipeline.Grid := .none

abbrev stage1_0 : Fin 1 → Memref sig .tc .vmem S2x8x64 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S128x8 .i32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S64x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev stage1_8 : Fin 1 → Memref sig .tc .vmem S1x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))

abbrev stage1_9 : Fin 1 → Memref sig .tc .vmem S128x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))

abbrev stage1_10 : Fin 1 → Memref sig .tc .vmem S1x64 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))

abbrev stage1_11 : Fin 1 → Memref sig .tc .vmem S64x64 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))

abbrev stage1_12 : Fin 1 → Memref sig .tc .vmem S1x64 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))

abbrev stage1_13 : Fin 1 → Memref sig .tc .vmem S64x8 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))

abbrev stage1_14 : Fin 1 → Memref sig .tc .vmem S1x8 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))

abbrev stage1_15 : Fin 1 → Memref sig .tc .vmem S1x1 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))

abbrev stage1_16 : Fin 1 → Memref sig .tc .vmem S1x8 .f32 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
-- ==== ReferenceIdeal.lean ====
abbrev S1048576x32 : Shape := ⟨2, ![1048576, 32]⟩
abbrev S128x1 : Shape := ⟨2, ![128, 1]⟩
abbrev S1048576 : Shape := ⟨1, ![1048576]⟩
abbrev S128 : Shape := ⟨1, ![128]⟩
abbrev S64x32 : Shape := ⟨2, ![64, 32]⟩
abbrev S64 : Shape := ⟨1, ![64]⟩
abbrev S64x64 : Shape := ⟨2, ![64, 64]⟩
abbrev S64x1 : Shape := ⟨2, ![64, 1]⟩
abbrev S64x128 : Shape := ⟨2, ![64, 128]⟩
abbrev S1x64 : Shape := ⟨2, ![1, 64]⟩
abbrev S1 : Shape := ⟨1, ![1]⟩
abbrev S32x64 : Shape := ⟨2, ![32, 64]⟩
abbrev S1048576x64 : Shape := ⟨2, ![1048576, 64]⟩
abbrev S_ : Shape := ⟨0, ![]⟩
abbrev S8x64 : Shape := ⟨2, ![8, 64]⟩
abbrev S1048576x1 : Shape := ⟨2, ![1048576, 1]⟩
abbrev S128x64 : Shape := ⟨2, ![128, 64]⟩
abbrev S128x128 : Shape := ⟨2, ![128, 128]⟩
abbrev S1x1 : Shape := ⟨2, ![1, 1]⟩
abbrev S8 : Shape := ⟨1, ![8]⟩
abbrev S1x8 : Shape := ⟨2, ![1, 8]⟩
abbrev S128x8 : Shape := ⟨2, ![128, 8]⟩
abbrev S8x1 : Shape := ⟨2, ![8, 1]⟩

abbrev nBuf : Space → Nat
  | .hbm => 218
  | .vmem => 0
  | .smem => 0
  | _ => 0

abbrev hbmTy0_0 (i : Nat) : BufTy := match i % 128 with
  | 0 => ⟨S1048576x32, .f32⟩
  | 1 => ⟨S128x1, .f32⟩
  | 2 => ⟨S1048576, .i32⟩
  | 3 => ⟨S128, .i32⟩
  | 4 => ⟨S64x32, .f32⟩
  | 5 => ⟨S64, .f32⟩
  | 6 => ⟨S64x64, .f32⟩
  | 7 => ⟨S64, .f32⟩
  | 8 => ⟨S64x64, .f32⟩
  | 9 => ⟨S64, .f32⟩
  | 10 => ⟨S64x64, .f32⟩
  | 11 => ⟨S64, .f32⟩
  | 12 => ⟨S64x1, .f32⟩
  | 13 => ⟨S64, .f32⟩
  | 14 => ⟨S64x64, .f32⟩
  | 15 => ⟨S64, .f32⟩
  | 16 => ⟨S64x64, .f32⟩
  | 17 => ⟨S64, .f32⟩
  | 18 => ⟨S64x128, .f32⟩
  | 19 => ⟨S64, .f32⟩
  | 20 => ⟨S64x64, .f32⟩
  | 21 => ⟨S64, .f32⟩
  | 22 => ⟨S1x64, .f32⟩
  | 23 => ⟨S1, .f32⟩
  | 24 => ⟨S32x64, .f32⟩
  | 25 => ⟨S1048576x64, .f32⟩
  | 26 => ⟨S1x64, .f32⟩
  | 27 => ⟨S1048576x64, .f32⟩
  | 28 => ⟨S1048576x64, .f32⟩
  | 29 => ⟨S_, .f32⟩
  | 30 => ⟨S1048576x64, .f32⟩
  | 31 => ⟨S1048576x64, .f32⟩
  | 32 => ⟨S64x64, .f32⟩
  | 33 => ⟨S1048576x64, .f32⟩
  | 34 => ⟨S1x64, .f32⟩
  | 35 => ⟨S1048576x64, .f32⟩
  | 36 => ⟨S1048576x64, .f32⟩
  | 37 => ⟨S_, .f32⟩
  | 38 => ⟨S1048576x64, .f32⟩
  | 39 => ⟨S1048576x64, .f32⟩
  | 40 => ⟨S64x64, .f32⟩
  | 41 => ⟨S1048576x64, .f32⟩
  | 42 => ⟨S1x64, .f32⟩
  | 43 => ⟨S1048576x64, .f32⟩
  | 44 => ⟨S1048576x64, .f32⟩
  | 45 => ⟨S_, .f32⟩
  | 46 => ⟨S1048576x64, .f32⟩
  | 47 => ⟨S1048576x64, .f32⟩
  | 48 => ⟨S64x64, .f32⟩
  | 49 => ⟨S1048576x64, .f32⟩
  | 50 => ⟨S1x64, .f32⟩
  | 51 => ⟨S1048576x64, .f32⟩
  | 52 => ⟨S1048576x64, .f32⟩
  | 53 => ⟨S1048576x64, .f32⟩
  | 54 => ⟨S1048576x64, .f32⟩
  | 55 => ⟨S_, .f32⟩
  | 56 => ⟨S1048576x64, .f32⟩
  | 57 => ⟨S1048576x64, .f32⟩
  | 58 => ⟨S_, .f32⟩
  | 59 => ⟨S1048576x64, .f32⟩
  | 60 => ⟨S1048576x64, .f32⟩
  | 61 => ⟨S1048576x64, .f32⟩
  | 62 => ⟨S_, .f32⟩
  | 63 => ⟨S8x64, .f32⟩
  | 64 => ⟨S1048576x1, .i32⟩
  | 65 => ⟨S8x64, .f32⟩
  | 66 => ⟨S1x64, .f32⟩
  | 67 => ⟨S128x64, .f32⟩
  | 68 => ⟨S1x64, .f32⟩
  | 69 => ⟨S128x64, .f32⟩
  | 70 => ⟨S128x64, .f32⟩
  | 71 => ⟨S_, .f32⟩
  | 72 => ⟨S128x64, .f32⟩
  | 73 => ⟨S128x64, .f32⟩
  | 74 => ⟨S64x64, .f32⟩
  | 75 => ⟨S128x64, .f32⟩
  | 76 => ⟨S1x64, .f32⟩
  | 77 => ⟨S128x64, .f32⟩
  | 78 => ⟨S128x64, .f32⟩
  | 79 => ⟨S_, .f32⟩
  | 80 => ⟨S128x64, .f32⟩
  | 81 => ⟨S128x64, .f32⟩
  | 82 => ⟨S64x64, .f32⟩
  | 83 => ⟨S128x64, .f32⟩
  | 84 => ⟨S1x64, .f32⟩
  | 85 => ⟨S128x64, .f32⟩
  | 86 => ⟨S128x64, .f32⟩
  | 87 => ⟨S_, .f32⟩
  | 88 => ⟨S128x64, .f32⟩
  | 89 => ⟨S128x64, .f32⟩
  | 90 => ⟨S_, .i32⟩
  | 91 => ⟨S128, .i32⟩
  | 92 => ⟨S128, .i1⟩
  | 93 => ⟨S_, .i32⟩
  | 94 => ⟨S128, .i32⟩
  | 95 => ⟨S128, .i32⟩
  | 96 => ⟨S128, .i32⟩
  | 97 => ⟨S128x1, .i32⟩
  | 98 => ⟨S128x64, .f32⟩
  | 99 => ⟨S128x128, .f32⟩
  | 100 => ⟨S128x64, .f32⟩
  | 101 => ⟨S128x64, .f32⟩
  | 102 => ⟨S1x64, .f32⟩
  | 103 => ⟨S128x64, .f32⟩
  | 104 => ⟨S128x64, .f32⟩
  | 105 => ⟨S_, .f32⟩
  | 106 => ⟨S128x64, .f32⟩
  | 107 => ⟨S128x64, .f32⟩
  | 108 => ⟨S64x64, .f32⟩
  | 109 => ⟨S128x64, .f32⟩
  | 110 => ⟨S1x64, .f32⟩
  | 111 => ⟨S128x64, .f32⟩
  | 112 => ⟨S128x64, .f32⟩
  | 113 => ⟨S_, .f32⟩
  | 114 => ⟨S128x64, .f32⟩
  | 115 => ⟨S128x64, .f32⟩
  | 116 => ⟨S64x1, .f32⟩
  | 117 => ⟨S128x1, .f32⟩
  | 118 => ⟨S1x1, .f32⟩
  | 119 => ⟨S128x1, .f32⟩
  | 120 => ⟨S128x1, .f32⟩
  | 121 => ⟨S_, .f32⟩
  | 122 => ⟨S128x1, .f32⟩
  | 123 => ⟨S128x1, .f32⟩
  | 124 => ⟨S128, .f32⟩
  | 125 => ⟨S128x1, .i32⟩
  | 126 => ⟨S8, .i32⟩
  | 127 => ⟨S1x8, .i32⟩
  | _ => ⟨S1048576x32, .f32⟩

abbrev hbmTy0_1 (i : Nat) : BufTy := match i % 128 with
  | 0 => ⟨S128x8, .i32⟩
  | 1 => ⟨S128x8, .i32⟩
  | 2 => ⟨S128x8, .i1⟩
  | 3 => ⟨S128x1, .f32⟩
  | 4 => ⟨S_, .f32⟩
  | 5 => ⟨S_, .f32⟩
  | 6 => ⟨S128x8, .f32⟩
  | 7 => ⟨S128x8, .f32⟩
  | 8 => ⟨S128x8, .f32⟩
  | 9 => ⟨S_, .f32⟩
  | 10 => ⟨S8, .f32⟩
  | 11 => ⟨S_, .i32⟩
  | 12 => ⟨S128, .i32⟩
  | 13 => ⟨S128, .i1⟩
  | 14 => ⟨S_, .i32⟩
  | 15 => ⟨S128, .i32⟩
  | 16 => ⟨S128, .i32⟩
  | 17 => ⟨S128, .i32⟩
  | 18 => ⟨S128x1, .i32⟩
  | 19 => ⟨S128, .f32⟩
  | 20 => ⟨S128, .f32⟩
  | 21 => ⟨S128, .f32⟩
  | 22 => ⟨S_, .f32⟩
  | 23 => ⟨S8, .f32⟩
  | 24 => ⟨S128x1, .i32⟩
  | 25 => ⟨S8, .f32⟩
  | 26 => ⟨S_, .i32⟩
  | 27 => ⟨S128, .i32⟩
  | 28 => ⟨S128, .i1⟩
  | 29 => ⟨S_, .i32⟩
  | 30 => ⟨S128, .i32⟩
  | 31 => ⟨S128, .i32⟩
  | 32 => ⟨S128, .i32⟩
  | 33 => ⟨S128x1, .i32⟩
  | 34 => ⟨S128, .f32⟩
  | 35 => ⟨S128, .f32⟩
  | 36 => ⟨S128, .f32⟩
  | 37 => ⟨S_, .f32⟩
  | 38 => ⟨S_, .f32⟩
  | 39 => ⟨S128x1, .i32⟩
  | 40 => ⟨S8, .i32⟩
  | 41 => ⟨S1x8, .i32⟩
  | 42 => ⟨S128x8, .i32⟩
  | 43 => ⟨S128x8, .i32⟩
  | 44 => ⟨S128x8, .i1⟩
  | 45 => ⟨S128x1, .f32⟩
  | 46 => ⟨S_, .f32⟩
  | 47 => ⟨S_, .f32⟩
  | 48 => ⟨S128x8, .f32⟩
  | 49 => ⟨S128x8, .f32⟩
  | 50 => ⟨S128x8, .f32⟩
  | 51 => ⟨S_, .f32⟩
  | 52 => ⟨S8, .f32⟩
  | 53 => ⟨S_, .i32⟩
  | 54 => ⟨S128, .i32⟩
  | 55 => ⟨S128, .i1⟩
  | 56 => ⟨S_, .i32⟩
  | 57 => ⟨S128, .i32⟩
  | 58 => ⟨S128, .i32⟩
  | 59 => ⟨S128, .i32⟩
  | 60 => ⟨S128x1, .i32⟩
  | 61 => ⟨S128, .f32⟩
  | 62 => ⟨S128, .i1⟩
  | 63 => ⟨S128, .i32⟩
  | 64 => ⟨S_, .i32⟩
  | 65 => ⟨S_, .i32⟩
  | 66 => ⟨S128, .i32⟩
  | 67 => ⟨S128, .i32⟩
  | 68 => ⟨S_, .i32⟩
  | 69 => ⟨S8, .i32⟩
  | 70 => ⟨S128x1, .i32⟩
  | 71 => ⟨S8, .i32⟩
  | 72 => ⟨S128, .f32⟩
  | 73 => ⟨S_, .i32⟩
  | 74 => ⟨S_, .i32⟩
  | 75 => ⟨S_, .i32⟩
  | 76 => ⟨S8, .i32⟩
  | 77 => ⟨S8, .i32⟩
  | 78 => ⟨S_, .i32⟩
  | 79 => ⟨S8, .i32⟩
  | 80 => ⟨S8, .i32⟩
  | 81 => ⟨S_, .i32⟩
  | 82 => ⟨S8, .i32⟩
  | 83 => ⟨S8, .i1⟩
  | 84 => ⟨S_, .i32⟩
  | 85 => ⟨S8, .i32⟩
  | 86 => ⟨S8, .i32⟩
  | 87 => ⟨S8, .i32⟩
  | 88 => ⟨S8x1, .i32⟩
  | 89 => ⟨S8, .f32⟩
  | _ => ⟨S1048576x32, .f32⟩

abbrev hbmTy (i : Nat) : BufTy := match i / 128 with
  | 0 => hbmTy0_0 i
  | 1 => hbmTy0_1 i
  | _ => ⟨S1048576x32, .f32⟩

abbrev bufTy : (tb : Table) → Fin (tcTables nBuf tb) → BufTy
  | .hbm, ⟨i, _⟩ => hbmTy i
  | _, _ => ⟨S1048576x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_call0_cst : Ref sig .tc := ⟨.hbm, 29, rfl⟩
abbrev main_call0_v0 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_call1_cst : Ref sig .tc := ⟨.hbm, 37, rfl⟩
abbrev main_call1_v0 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_call2_cst : Ref sig .tc := ⟨.hbm, 45, rfl⟩
abbrev main_call2_v0 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_cst : Ref sig .tc := ⟨.hbm, 55, rfl⟩
abbrev main_v25 : Ref sig .tc := ⟨.hbm, 56, rfl⟩
abbrev main_v26 : Ref sig .tc := ⟨.hbm, 57, rfl⟩
abbrev main_cst_0 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_cst_1 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_call3_cst : Ref sig .tc := ⟨.hbm, 71, rfl⟩
abbrev main_call3_v0 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_call4_cst : Ref sig .tc := ⟨.hbm, 79, rfl⟩
abbrev main_call4_v0 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_call5_cst : Ref sig .tc := ⟨.hbm, 87, rfl⟩
abbrev main_call5_v0 : Ref sig .tc := ⟨.hbm, 88, rfl⟩
abbrev main_v50 : Ref sig .tc := ⟨.hbm, 89, rfl⟩
abbrev main_c : Ref sig .tc := ⟨.hbm, 90, rfl⟩
abbrev main_v51 : Ref sig .tc := ⟨.hbm, 91, rfl⟩
abbrev main_v52 : Ref sig .tc := ⟨.hbm, 92, rfl⟩
abbrev main_c_2 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_call6_cst : Ref sig .tc := ⟨.hbm, 105, rfl⟩
abbrev main_call6_v0 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_call7_cst : Ref sig .tc := ⟨.hbm, 113, rfl⟩
abbrev main_call7_v0 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_call8_cst : Ref sig .tc := ⟨.hbm, 121, rfl⟩
abbrev main_call8_v0 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_cst_3 : Ref sig .tc := ⟨.hbm, 132, rfl⟩
abbrev main_call9_v0 : Ref sig .tc := ⟨.hbm, 133, rfl⟩
abbrev main_call9_v1 : Ref sig .tc := ⟨.hbm, 134, rfl⟩
abbrev main_call9_v2 : Ref sig .tc := ⟨.hbm, 135, rfl⟩
abbrev main_v85 : Ref sig .tc := ⟨.hbm, 136, rfl⟩
abbrev main_cst_4 : Ref sig .tc := ⟨.hbm, 137, rfl⟩
abbrev main_v86 : Ref sig .tc := ⟨.hbm, 138, rfl⟩
abbrev main_c_5 : Ref sig .tc := ⟨.hbm, 139, rfl⟩
abbrev main_v87 : Ref sig .tc := ⟨.hbm, 140, rfl⟩
abbrev main_v88 : Ref sig .tc := ⟨.hbm, 141, rfl⟩
abbrev main_c_6 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_cst_7 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_c_8 : Ref sig .tc := ⟨.hbm, 154, rfl⟩
abbrev main_v99 : Ref sig .tc := ⟨.hbm, 155, rfl⟩
abbrev main_v100 : Ref sig .tc := ⟨.hbm, 156, rfl⟩
abbrev main_c_9 : Ref sig .tc := ⟨.hbm, 157, rfl⟩
abbrev main_v101 : Ref sig .tc := ⟨.hbm, 158, rfl⟩
abbrev main_v102 : Ref sig .tc := ⟨.hbm, 159, rfl⟩
abbrev main_v103 : Ref sig .tc := ⟨.hbm, 160, rfl⟩
abbrev main_v104 : Ref sig .tc := ⟨.hbm, 161, rfl⟩
abbrev main_v105 : Ref sig .tc := ⟨.hbm, 162, rfl⟩
abbrev main_v106 : Ref sig .tc := ⟨.hbm, 163, rfl⟩
abbrev main_v107 : Ref sig .tc := ⟨.hbm, 164, rfl⟩
abbrev main_cst_10 : Ref sig .tc := ⟨.hbm, 165, rfl⟩
abbrev main_v108 : Ref sig .tc := ⟨.hbm, 166, rfl⟩
abbrev main_v109 : Ref sig .tc := ⟨.hbm, 167, rfl⟩
abbrev main_v110 : Ref sig .tc := ⟨.hbm, 168, rfl⟩
abbrev main_v111 : Ref sig .tc := ⟨.hbm, 169, rfl⟩
abbrev main_v112 : Ref sig .tc := ⟨.hbm, 170, rfl⟩
abbrev main_v113 : Ref sig .tc := ⟨.hbm, 171, rfl⟩
abbrev main_v114 : Ref sig .tc := ⟨.hbm, 172, rfl⟩
abbrev main_v115 : Ref sig .tc := ⟨.hbm, 173, rfl⟩
abbrev main_cst_11 : Ref sig .tc := ⟨.hbm, 174, rfl⟩
abbrev main_call10_v0 : Ref sig .tc := ⟨.hbm, 175, rfl⟩
abbrev main_call10_v1 : Ref sig .tc := ⟨.hbm, 176, rfl⟩
abbrev main_call10_v2 : Ref sig .tc := ⟨.hbm, 177, rfl⟩
abbrev main_v116 : Ref sig .tc := ⟨.hbm, 178, rfl⟩
abbrev main_cst_12 : Ref sig .tc := ⟨.hbm, 179, rfl⟩
abbrev main_v117 : Ref sig .tc := ⟨.hbm, 180, rfl⟩
abbrev main_c_13 : Ref sig .tc := ⟨.hbm, 181, rfl⟩
abbrev main_v118 : Ref sig .tc := ⟨.hbm, 182, rfl⟩
abbrev main_v119 : Ref sig .tc := ⟨.hbm, 183, rfl⟩
abbrev main_c_14 : Ref sig .tc := ⟨.hbm, 184, rfl⟩
abbrev main_v120 : Ref sig .tc := ⟨.hbm, 185, rfl⟩
abbrev main_v121 : Ref sig .tc := ⟨.hbm, 186, rfl⟩
abbrev main_v122 : Ref sig .tc := ⟨.hbm, 187, rfl⟩
abbrev main_v123 : Ref sig .tc := ⟨.hbm, 188, rfl⟩
abbrev main_v124 : Ref sig .tc := ⟨.hbm, 189, rfl⟩
abbrev main_v125 : Ref sig .tc := ⟨.hbm, 190, rfl⟩
abbrev main_v126 : Ref sig .tc := ⟨.hbm, 191, rfl⟩
abbrev main_c_15 : Ref sig .tc := ⟨.hbm, 192, rfl⟩
abbrev main_call11_v0 : Ref sig .tc := ⟨.hbm, 193, rfl⟩
abbrev main_call11_v1 : Ref sig .tc := ⟨.hbm, 194, rfl⟩
abbrev main_v127 : Ref sig .tc := ⟨.hbm, 195, rfl⟩
abbrev main_c_16 : Ref sig .tc := ⟨.hbm, 196, rfl⟩
abbrev main_v128 : Ref sig .tc := ⟨.hbm, 197, rfl⟩
abbrev main_v129 : Ref sig .tc := ⟨.hbm, 198, rfl⟩
abbrev main_v130 : Ref sig .tc := ⟨.hbm, 199, rfl⟩
abbrev main_v131 : Ref sig .tc := ⟨.hbm, 200, rfl⟩
abbrev main_c_17 : Ref sig .tc := ⟨.hbm, 201, rfl⟩
abbrev main_c_18 : Ref sig .tc := ⟨.hbm, 202, rfl⟩
abbrev main_call12_v0 : Ref sig .tc := ⟨.hbm, 203, rfl⟩
abbrev main_call12_v1 : Ref sig .tc := ⟨.hbm, 204, rfl⟩
abbrev main_call12_v2 : Ref sig .tc := ⟨.hbm, 205, rfl⟩
abbrev main_call12_v3 : Ref sig .tc := ⟨.hbm, 206, rfl⟩
abbrev main_call12_v4 : Ref sig .tc := ⟨.hbm, 207, rfl⟩
abbrev main_v132 : Ref sig .tc := ⟨.hbm, 208, rfl⟩
abbrev main_c_19 : Ref sig .tc := ⟨.hbm, 209, rfl⟩
abbrev main_v133 : Ref sig .tc := ⟨.hbm, 210, rfl⟩
abbrev main_v134 : Ref sig .tc := ⟨.hbm, 211, rfl⟩
abbrev main_c_20 : Ref sig .tc := ⟨.hbm, 212, rfl⟩
abbrev main_v135 : Ref sig .tc := ⟨.hbm, 213, rfl⟩
abbrev main_v136 : Ref sig .tc := ⟨.hbm, 214, rfl⟩
abbrev main_v137 : Ref sig .tc := ⟨.hbm, 215, rfl⟩
abbrev main_v138 : Ref sig .tc := ⟨.hbm, 216, rfl⟩
abbrev main_v139 : Ref sig .tc := ⟨.hbm, 217, rfl⟩

abbrev nD : Nat := 1
abbrev τ : Topo := Topo.v7x

variable {F : FTy → Type} [FloatOps F]
-- ==== Proof.KernelIdealRegion0.lean ====
/- Region 0 of the kernel (the first call): the proof data of its pipeline, whose output block is reset
   at the first point of each half of the grid and added to at the others, and the obligation of its body. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.TableIdle
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The contents of the buffers at the region's entry are a parameter. -/
variable (V : (c : Dev nD) → (b : Ref sig .tc) → Buf (Elt F) ((c : Thread nD τ).loc b))

/-! # REGION 0 of @main: custom_call 0, `cc0__stage1_body`, at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof data whose array is `V`'s (`hA`) and whose body leaves the block in place (`hafter`). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof data whose array is `V`'s (`hA`) and whose body leaves the block in place (`hafter`). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof data whose array is `V`'s (`hA`) and whose body leaves the block in place (`hafter`). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for ANY proof data whose array is `V`'s (`hA`) and whose body leaves the block in place (`hafter`). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for ANY proof data whose array is `V`'s (`hA`) and whose body leaves the block in place (`hafter`). -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not, for ANY proof data whose array is `V`'s (`hA`) and whose body leaves the block in place (`hafter`). -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's current staging buffer holds its block at every point, fetched there or not, for ANY proof data whose array is `V`'s (`hA`) and whose body leaves the block in place (`hafter`). -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
/-- Input window 7's current staging buffer holds its block at every point, fetched there or not, for ANY proof data whose array is `V`'s (`hA`) and whose body leaves the block in place (`hafter`). -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
/-- Input window 8's current staging buffer holds its block at every point, fetched there or not, for ANY proof data whose array is `V`'s (`hA`) and whose body leaves the block in place (`hafter`). -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
/-- Input window 9's current staging buffer holds its block at every point, fetched there or not, for ANY proof data whose array is `V`'s (`hA`) and whose body leaves the block in place (`hafter`). -/
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The condition of the body's `scf.if` 0 (`k0_h1`), from the grid coordinates (the skeleton's scalar chain substituted). -/
abbrev cond0_0 (i : grid0.Coords) : Prop := k0_cond1 i = 1#1
/-- It holds at the points ≡ 0 (mod 128) — by arithmetic of the point. -/
theorem hcond0_0 : ∀ t : Fin cfg0.N, cond0_0 (grid0.coords t) ↔ t.val % 128 = 0 :=
  (fun t => by
    have ht : t.val < 256 := Nat.lt_of_lt_of_eq t.isLt N_0
    have e0 : (grid0.coords t 0).val = t.val / 128 % 2 := Pipeline.Grid.coords_val t 0 (by decide) rfl
    have e1 : (grid0.coords t 1).val = t.val / 1 % 128 := Pipeline.Grid.coords_val t 1 (by decide) rfl
    simp only [cond0_0, k0_cond1, e0, e1]
    word_cmp
   : ∀ t : Fin grid0.N, cond0_0 (grid0.coords t) ↔ t.val % 128 = 0)

/-- The condition of the body's `scf.if` 1 (`k0_h2`), from the grid coordinates (the skeleton's scalar chain substituted). -/
abbrev cond0_1 (i : grid0.Coords) : Prop := k0_cond2 i = 1#1
/-- It holds at the points whose coordinates have 1 ≤ i1 — decided over the grid. -/
theorem hcond0_1 : ∀ t : Fin cfg0.N, cond0_1 (grid0.coords t) ↔ 1 ≤ t.val % 128 :=
  (by decide +kernel : ∀ t : Fin grid0.N, cond0_1 (grid0.coords t) ↔ 1 ≤ t.val % 128)

/-! ## Where the windows are idle -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl
/-- Whether output 10's buffer is FRESH at each position `1 ‥ N` — holds nothing the body stored since the region's entry or the last write-back (written back at the point before, or idle there and fresh before it) —, as a bitmask the table computed, bit `n` for position `n + 1`. -/
def freshTab0_10 : ℕ → Bool
  | 0 => true
  | n + 1 => (0x8000000000000000000000000000000080000000000000000000000000000000 : ℕ).testBit n
/-- The table follows the step of the configuration. -/
theorem freshTab0_10_step : ∀ t : Fin cfg0.N,
    freshTab0_10 (t.val + 1) = ((cfg0.win 10).flush t || (cfg0.idle 10 (cfg0.grid.coords t) && freshTab0_10 t.val)) := by decide +kernel
/-- The table says where the buffer of window 10 holds nothing stored. -/
theorem fresh0_10_eq (t : Fin cfg0.N) : cfg0.fresh 10 t.val = freshTab0_10 t.val :=
  Pipeline.Cfg.fresh_tab cfg0 10 freshTab0_10 rfl freshTab0_10_step t.val (Nat.le_of_lt t.isLt)
/-- At the points of case A the printed configuration (`Cfg.idle`) calls output 10 live. -/
theorem liveAt0_10_A : ∀ t : Fin cfg0.N, cond0_0 (grid0.coords t) → ¬cond0_1 (grid0.coords t) → cfg0.idle 10 (grid0.coords t) = false := by decide +kernel
/-- At the points of case B the printed configuration (`Cfg.idle`) calls output 10 live. -/
theorem liveAt0_10_B : ∀ t : Fin cfg0.N, ¬cond0_0 (grid0.coords t) → cond0_1 (grid0.coords t) → cfg0.idle 10 (grid0.coords t) = false := by decide +kernel
/-- At the points of case B, which keeps output 10's prior contents (reads it before covering, or covers it in part), the window's buffer is not FRESH. -/
theorem notFresh0_10_B : ∀ t : Fin cfg0.N, ¬cond0_0 (grid0.coords t) → cond0_1 (grid0.coords t) → cfg0.fresh 10 t.val = false := by
  intro t; rw [fresh0_10_eq t]; revert t; decide +kernel

/-! ## The kernel body on any staging memrefs: a subtype the run finds -/

/-- One staging buffer of output window 10, through which its contents are stated. -/
abbrev VO0_10 : View sig .tc .vmem S1x8x64 .f32 := (Memref.whole cc0_stg10_0 : Memref sig .tc .vmem S1x8x64 .f32).view
/-- Each window's current staging memref at point `t`, spelled as the pipeline passes it (`bodyAt0`), and its wholeness. -/
abbrev ms0_0 (t : Fin cfg0.N) : Memref sig .tc .vmem S4096x32 .f32 := win0_0.stage (cfg0.slots t 0)
/-- That memref is a whole buffer. -/
abbrev hs0_0 (t : Fin cfg0.N) : (ms0_0 t).IsWhole := hstage0_0 ((cfg0.slots t 0).cast nbuf0_0)
/-- The staging memref of window 1 at a point. -/
abbrev ms0_1 (t : Fin cfg0.N) : Memref sig .tc .vmem S1x1x4096 .i32 := win0_1.stage (cfg0.slots t 1)
/-- That memref is a whole buffer. -/
abbrev hs0_1 (t : Fin cfg0.N) : (ms0_1 t).IsWhole := hstage0_1 ((cfg0.slots t 1).cast nbuf0_1)
/-- The staging memref of window 2 at a point. -/
abbrev ms0_2 (t : Fin cfg0.N) : Memref sig .tc .vmem S32x64 .f32 := win0_2.stage (cfg0.slots t 2)
/-- That memref is a whole buffer. -/
abbrev hs0_2 (t : Fin cfg0.N) : (ms0_2 t).IsWhole := hstage0_2 ((cfg0.slots t 2).cast nbuf0_2)
/-- The staging memref of window 3 at a point. -/
abbrev ms0_3 (t : Fin cfg0.N) : Memref sig .tc .vmem S1x64 .f32 := win0_3.stage (cfg0.slots t 3)
/-- That memref is a whole buffer. -/
abbrev hs0_3 (t : Fin cfg0.N) : (ms0_3 t).IsWhole := hstage0_3 ((cfg0.slots t 3).cast nbuf0_3)
/-- The staging memref of window 4 at a point. -/
abbrev ms0_4 (t : Fin cfg0.N) : Memref sig .tc .vmem S64x64 .f32 := win0_4.stage (cfg0.slots t 4)
/-- That memref is a whole buffer. -/
abbrev hs0_4 (t : Fin cfg0.N) : (ms0_4 t).IsWhole := hstage0_4 ((cfg0.slots t 4).cast nbuf0_4)
/-- The staging memref of window 5 at a point. -/
abbrev ms0_5 (t : Fin cfg0.N) : Memref sig .tc .vmem S1x64 .f32 := win0_5.stage (cfg0.slots t 5)
/-- That memref is a whole buffer. -/
abbrev hs0_5 (t : Fin cfg0.N) : (ms0_5 t).IsWhole := hstage0_5 ((cfg0.slots t 5).cast nbuf0_5)
/-- The staging memref of window 6 at a point. -/
abbrev ms0_6 (t : Fin cfg0.N) : Memref sig .tc .vmem S64x64 .f32 := win0_6.stage (cfg0.slots t 6)
/-- That memref is a whole buffer. -/
abbrev hs0_6 (t : Fin cfg0.N) : (ms0_6 t).IsWhole := hstage0_6 ((cfg0.slots t 6).cast nbuf0_6)
/-- The staging memref of window 7 at a point. -/
abbrev ms0_7 (t : Fin cfg0.N) : Memref sig .tc .vmem S1x64 .f32 := win0_7.stage (cfg0.slots t 7)
/-- That memref is a whole buffer. -/
abbrev hs0_7 (t : Fin cfg0.N) : (ms0_7 t).IsWhole := hstage0_7 ((cfg0.slots t 7).cast nbuf0_7)
/-- The staging memref of window 8 at a point. -/
abbrev ms0_8 (t : Fin cfg0.N) : Memref sig .tc .vmem S64x64 .f32 := win0_8.stage (cfg0.slots t 8)
/-- That memref is a whole buffer. -/
abbrev hs0_8 (t : Fin cfg0.N) : (ms0_8 t).IsWhole := hstage0_8 ((cfg0.slots t 8).cast nbuf0_8)
/-- The staging memref of window 9 at a point. -/
abbrev ms0_9 (t : Fin cfg0.N) : Memref sig .tc .vmem S1x64 .f32 := win0_9.stage (cfg0.slots t 9)
/-- That memref is a whole buffer. -/
abbrev hs0_9 (t : Fin cfg0.N) : (ms0_9 t).IsWhole := hstage0_9 ((cfg0.slots t 9).cast nbuf0_9)
/-- The staging memref of window 10 at a point. -/
abbrev ms0_10 (t : Fin cfg0.N) : Memref sig .tc .vmem S1x8x64 .f32 := win0_10.stage (cfg0.slots t 10)
/-- That memref is a whole buffer. -/
abbrev hs0_10 (t : Fin cfg0.N) : (ms0_10 t).IsWhole := hstage0_10 ((cfg0.slots t 10).cast nbuf0_10)

set_option maxHeartbeats 1000000 in
/-- What the body's stores leave in each output's staging memref, as pieces (last first) IN CASE A (`scf.if` 0 taken, `scf.if` 1 not taken). -/
noncomputable def kernelRun0_A (c : Dev nD) (i : grid0.Coords) (arg2 : Memref sig .tc .vmem S4096x32 .f32) (harg2 : arg2.IsWhole) (arg3 : Memref sig .tc .vmem S1x1x4096 .i32) (harg3 : arg3.IsWhole) (arg4 : Memref sig .tc .vmem S32x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S1x8x64 .f32) (harg12 : arg12.IsWhole) (hc0 : cond0_0 i) (hc1 : ¬cond0_1 i)
    (x0 : Vec F S4096x32 .f32) (x1 : Vec F S1x1x4096 .i32) (x2 : Vec F S32x64 .f32) (x3 : Vec F S1x64 .f32) (x4 : Vec F S64x64 .f32) (x5 : Vec F S1x64 .f32) (x6 : Vec F S64x64 .f32) (x7 : Vec F S1x64 .f32) (x8 : Vec F S64x64 .f32) (x9 : Vec F S1x64 .f32) :
    { L10 : List (View.Piece (Elt F) S1x8x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L10)) -∗ K ⟨⟩))
          ⊢ wp frame (wpE (defs₀ (F := F)) Variants.none c none) E (cc0__stage1_body i arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc0__stage1_body_eq_skeleton]; unfold cc0__stage1_body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    iexists _; iexact H10

/-- Case A's pieces for output 10 tile its block, so they cover it. -/
theorem cover0_A_10 (c : Dev nD) (i : grid0.Coords) (arg2 : Memref sig .tc .vmem S4096x32 .f32) (harg2 : arg2.IsWhole) (arg3 : Memref sig .tc .vmem S1x1x4096 .i32) (harg3 : arg3.IsWhole) (arg4 : Memref sig .tc .vmem S32x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S1x8x64 .f32) (harg12 : arg12.IsWhole) (hc0 : cond0_0 i) (hc1 : ¬cond0_1 i)
    (x0 : Vec F S4096x32 .f32) (x1 : Vec F S1x1x4096 .i32) (x2 : Vec F S32x64 .f32) (x3 : Vec F S1x64 .f32) (x4 : Vec F S64x64 .f32) (x5 : Vec F S1x64 .f32) (x6 : Vec F S64x64 .f32) (x7 : Vec F S1x64 .f32) (x8 : Vec F S64x64 .f32) (x9 : Vec F S1x64 .f32) (y : S1x8x64.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 x9).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 x9).1 S1x8x64.size (by sl_kernel_rfl) y

/-- What case A leaves in output 10's staging buffer. -/
def out0_A_10 (c : Dev nD) (i : grid0.Coords) (arg2 : Memref sig .tc .vmem S4096x32 .f32) (harg2 : arg2.IsWhole) (arg3 : Memref sig .tc .vmem S1x1x4096 .i32) (harg3 : arg3.IsWhole) (arg4 : Memref sig .tc .vmem S32x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S1x8x64 .f32) (harg12 : arg12.IsWhole) (hc0 : cond0_0 i) (hc1 : ¬cond0_1 i)
    (x0 : Vec F S4096x32 .f32) (x1 : Vec F S1x1x4096 .i32) (x2 : Vec F S32x64 .f32) (x3 : Vec F S1x64 .f32) (x4 : Vec F S64x64 .f32) (x5 : Vec F S1x64 .f32) (x6 : Vec F S64x64 .f32) (x7 : Vec F S1x64 .f32) (x8 : Vec F S64x64 .f32) (x9 : Vec F S1x64 .f32) : Vec F S1x8x64 .f32 :=
  VO0_10.read (Elt F) (VO0_10.writes (Elt F) VO0_10.junk (kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 x9).1)

set_option maxHeartbeats 1000000 in
/-- What the body's stores leave in each output's staging memref, as pieces (last first) IN CASE B (`scf.if` 0 not taken, `scf.if` 1 taken). -/
noncomputable def kernelRun0_B (c : Dev nD) (i : grid0.Coords) (arg2 : Memref sig .tc .vmem S4096x32 .f32) (harg2 : arg2.IsWhole) (arg3 : Memref sig .tc .vmem S1x1x4096 .i32) (harg3 : arg3.IsWhole) (arg4 : Memref sig .tc .vmem S32x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S1x8x64 .f32) (harg12 : arg12.IsWhole) (hc0 : ¬cond0_0 i) (hc1 : cond0_1 i)
    (x0 : Vec F S4096x32 .f32) (x1 : Vec F S1x1x4096 .i32) (x2 : Vec F S32x64 .f32) (x3 : Vec F S1x64 .f32) (x4 : Vec F S64x64 .f32) (x5 : Vec F S1x64 .f32) (x6 : Vec F S64x64 .f32) (x7 : Vec F S1x64 .f32) (x8 : Vec F S64x64 .f32) (x9 : Vec F S1x64 .f32) (xo10 : Vec F S1x8x64 .f32) :
    { L10 : List (View.Piece (Elt F) S1x8x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xo10
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L10)) -∗ K ⟨⟩))
          ⊢ wp frame (wpE (defs₀ (F := F)) Variants.none c none) E (cc0__stage1_body i arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc0__stage1_body_eq_skeleton]; unfold cc0__stage1_body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    iexists _; iexact H10

/-- Case B's pieces for output 10 tile its block, so they cover it. -/
theorem cover0_B_10 (c : Dev nD) (i : grid0.Coords) (arg2 : Memref sig .tc .vmem S4096x32 .f32) (harg2 : arg2.IsWhole) (arg3 : Memref sig .tc .vmem S1x1x4096 .i32) (harg3 : arg3.IsWhole) (arg4 : Memref sig .tc .vmem S32x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S1x8x64 .f32) (harg12 : arg12.IsWhole) (hc0 : ¬cond0_0 i) (hc1 : cond0_1 i)
    (x0 : Vec F S4096x32 .f32) (x1 : Vec F S1x1x4096 .i32) (x2 : Vec F S32x64 .f32) (x3 : Vec F S1x64 .f32) (x4 : Vec F S64x64 .f32) (x5 : Vec F S1x64 .f32) (x6 : Vec F S64x64 .f32) (x7 : Vec F S1x64 .f32) (x8 : Vec F S64x64 .f32) (x9 : Vec F S1x64 .f32) (xo10 : Vec F S1x8x64 .f32) (y : S1x8x64.Idx) :
    ∃ pc ∈ (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 x9 xo10).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 x9 xo10).1 S1x8x64.size (by sl_kernel_rfl) y

/-- What case B leaves in output 10's staging buffer. -/
def out0_B_10 (c : Dev nD) (i : grid0.Coords) (arg2 : Memref sig .tc .vmem S4096x32 .f32) (harg2 : arg2.IsWhole) (arg3 : Memref sig .tc .vmem S1x1x4096 .i32) (harg3 : arg3.IsWhole) (arg4 : Memref sig .tc .vmem S32x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S1x8x64 .f32) (harg12 : arg12.IsWhole) (hc0 : ¬cond0_0 i) (hc1 : cond0_1 i)
    (x0 : Vec F S4096x32 .f32) (x1 : Vec F S1x1x4096 .i32) (x2 : Vec F S32x64 .f32) (x3 : Vec F S1x64 .f32) (x4 : Vec F S64x64 .f32) (x5 : Vec F S1x64 .f32) (x6 : Vec F S64x64 .f32) (x7 : Vec F S1x64 .f32) (x8 : Vec F S64x64 .f32) (x9 : Vec F S1x64 .f32) (xo10 : Vec F S1x8x64 .f32) : Vec F S1x8x64 .f32 :=
  VO0_10.read (Elt F) (VO0_10.writes (Elt F) VO0_10.junk (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 x9 xo10).1)

/-! ## What the outputs hold after each point -/

/-- The accumulation. What the outputs' staging buffers hold after the body at position `n`. -/
def outsAt0 (c : Dev nD) : (n : ℕ) → n < cfg0.N → Vec F S1x8x64 .f32
  | 0, hn => out0_A_10 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩) (iblk0 V c 8 ⟨0, hn⟩) (iblk0 V c 9 ⟨0, hn⟩)
  | n + 1, hn =>
    if h0 : (n + 1) % 128 = 0 then
      if h1 : 1 ≤ (n + 1) % 128 then
        False.elim (by have hN : n + 1 < 256 := lt_of_lt_of_eq hn (show cfg0.N = 256 from N_0); omega)
      else
        out0_A_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩)
    else
      if h1 : 1 ≤ (n + 1) % 128 then
        out0_B_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (outsAt0 c n (Nat.lt_of_succ_lt hn))
      else
        False.elim (by have hN : n + 1 < 256 := lt_of_lt_of_eq hn (show cfg0.N = 256 from N_0); omega)

/-- `outsAt0` at a point of case A. -/
theorem outsAt0_A (c : Dev nD) (t : Fin cfg0.N) (h0 : t.val % 128 = 0) (h1 : ¬1 ≤ t.val % 128) :
    outsAt0 V c t.val t.isLt = out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) := by
  obtain ⟨n, hn⟩ := t
  cases n with
  | zero => exact rfl
  | succ n => exact (dif_pos h0).trans ((dif_neg h1).trans rfl)

/-- `outsAt0` at a point of case B. -/
theorem outsAt0_B (c : Dev nD) (t : Fin cfg0.N) (h0 : ¬t.val % 128 = 0) (h1 : 1 ≤ t.val % 128) :
    outsAt0 V c t.val t.isLt = out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The pipeline's proof data -/

/-- The proof data of pipeline 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => (outsAt0 V c t.val t.isLt)
  Φ _ := Pipeline.ΦA spec0 c
  q _ := fullShare
  owed _ := 0

/-- The proof data's arrays are the region-entry contents, by projecting the definition (`dsimp`). -/
theorem A_eq0 (c : Dev nD) (w : Fin cfg0.W) : (dat0 V c).A w = V c (Pipeline.arrRef spec0 w) := by
  dsimp only [dat0]

/-- What the body leaves, window by window (the proof data's `match` reduced by `dsimp`). -/
theorem after0_0 (c : Dev nD) (t : Fin cfg0.N) : (dat0 V c).after 0 t = iblk0 V c 0 t := by dsimp only [dat0]
/-- What the buffer of window 1 of region 0 holds after the body. -/
theorem after0_1 (c : Dev nD) (t : Fin cfg0.N) : (dat0 V c).after 1 t = iblk0 V c 1 t := by dsimp only [dat0]
/-- What the buffer of window 2 of region 0 holds after the body. -/
theorem after0_2 (c : Dev nD) (t : Fin cfg0.N) : (dat0 V c).after 2 t = iblk0 V c 2 t := by dsimp only [dat0]
/-- What the buffer of window 3 of region 0 holds after the body. -/
theorem after0_3 (c : Dev nD) (t : Fin cfg0.N) : (dat0 V c).after 3 t = iblk0 V c 3 t := by dsimp only [dat0]
/-- What the buffer of window 4 of region 0 holds after the body. -/
theorem after0_4 (c : Dev nD) (t : Fin cfg0.N) : (dat0 V c).after 4 t = iblk0 V c 4 t := by dsimp only [dat0]
/-- What the buffer of window 5 of region 0 holds after the body. -/
theorem after0_5 (c : Dev nD) (t : Fin cfg0.N) : (dat0 V c).after 5 t = iblk0 V c 5 t := by dsimp only [dat0]
/-- What the buffer of window 6 of region 0 holds after the body. -/
theorem after0_6 (c : Dev nD) (t : Fin cfg0.N) : (dat0 V c).after 6 t = iblk0 V c 6 t := by dsimp only [dat0]
/-- What the buffer of window 7 of region 0 holds after the body. -/
theorem after0_7 (c : Dev nD) (t : Fin cfg0.N) : (dat0 V c).after 7 t = iblk0 V c 7 t := by dsimp only [dat0]
/-- What the buffer of window 8 of region 0 holds after the body. -/
theorem after0_8 (c : Dev nD) (t : Fin cfg0.N) : (dat0 V c).after 8 t = iblk0 V c 8 t := by dsimp only [dat0]
/-- What the buffer of window 9 of region 0 holds after the body. -/
theorem after0_9 (c : Dev nD) (t : Fin cfg0.N) : (dat0 V c).after 9 t = iblk0 V c 9 t := by dsimp only [dat0]
/-- What the buffer of window 10 of region 0 holds after the body. -/
theorem after0_10 (c : Dev nD) (t : Fin cfg0.N) : (dat0 V c).after 10 t = (outsAt0 V c t.val t.isLt) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
/-- The buffer of window 1 of region 0 holds its block before the body runs. -/
theorem before0_1 (c : Dev nD) (t : Fin cfg0.N) (d) : (dat0 V c).before 1 t d = iblk0 V c 1 t :=
  before0_1_of V (dat0 V c) (A_eq0 V c 1) (after0_1 V c) t d
/-- The buffer of window 2 of region 0 holds its block before the body runs. -/
theorem before0_2 (c : Dev nD) (t : Fin cfg0.N) (d) : (dat0 V c).before 2 t d = iblk0 V c 2 t :=
  before0_2_of V (dat0 V c) (A_eq0 V c 2) (after0_2 V c) t d
/-- The buffer of window 3 of region 0 holds its block before the body runs. -/
theorem before0_3 (c : Dev nD) (t : Fin cfg0.N) (d) : (dat0 V c).before 3 t d = iblk0 V c 3 t :=
  before0_3_of V (dat0 V c) (A_eq0 V c 3) (after0_3 V c) t d
/-- The buffer of window 4 of region 0 holds its block before the body runs. -/
theorem before0_4 (c : Dev nD) (t : Fin cfg0.N) (d) : (dat0 V c).before 4 t d = iblk0 V c 4 t :=
  before0_4_of V (dat0 V c) (A_eq0 V c 4) (after0_4 V c) t d
/-- The buffer of window 5 of region 0 holds its block before the body runs. -/
theorem before0_5 (c : Dev nD) (t : Fin cfg0.N) (d) : (dat0 V c).before 5 t d = iblk0 V c 5 t :=
  before0_5_of V (dat0 V c) (A_eq0 V c 5) (after0_5 V c) t d
/-- The buffer of window 6 of region 0 holds its block before the body runs. -/
theorem before0_6 (c : Dev nD) (t : Fin cfg0.N) (d) : (dat0 V c).before 6 t d = iblk0 V c 6 t :=
  before0_6_of V (dat0 V c) (A_eq0 V c 6) (after0_6 V c) t d
/-- The buffer of window 7 of region 0 holds its block before the body runs. -/
theorem before0_7 (c : Dev nD) (t : Fin cfg0.N) (d) : (dat0 V c).before 7 t d = iblk0 V c 7 t :=
  before0_7_of V (dat0 V c) (A_eq0 V c 7) (after0_7 V c) t d
/-- The buffer of window 8 of region 0 holds its block before the body runs. -/
theorem before0_8 (c : Dev nD) (t : Fin cfg0.N) (d) : (dat0 V c).before 8 t d = iblk0 V c 8 t :=
  before0_8_of V (dat0 V c) (A_eq0 V c 8) (after0_8 V c) t d
/-- The buffer of window 9 of region 0 holds its block before the body runs. -/
theorem before0_9 (c : Dev nD) (t : Fin cfg0.N) (d) : (dat0 V c).before 9 t d = iblk0 V c 9 t :=
  before0_9_of V (dat0 V c) (A_eq0 V c 9) (after0_9 V c) t d

/-- Output 10's contents CARRY through the points that leave it idle. -/
theorem hcarry0_10 (c : Dev nD) : ∀ (t : Fin cfg0.N) (_ : t.val ≠ 0), cfg0.idle 10 (grid0.coords t) = true → cfg0.fresh 10 t.val = false →
    (dat0 V c).after 10 t = (dat0 V c).after 10 ⟨t.val - 1, by omega⟩ := by
  intro t _ hi _
  have hN : t.val < 256 := lt_of_lt_of_eq t.isLt (show cfg0.N = 256 from N_0)
  rw [after0_10, after0_10]
  by_cases h0 : t.val % 128 = 0
  · by_cases h1 : 1 ≤ t.val % 128
    · exfalso; omega
    · rw [liveAt0_10_A t ((hcond0_0 t).mpr h0) (fun h => h1 ((hcond0_1 t).mp h))] at hi
      exact absurd hi Bool.false_ne_true
  · by_cases h1 : 1 ≤ t.val % 128
    · rw [liveAt0_10_B t (fun h => h0 ((hcond0_0 t).mp h)) ((hcond0_1 t).mpr h1)] at hi
      exact absurd hi Bool.false_ne_true
    · exfalso; omega
/-- At a point of case B output 10's current staging buffer holds what the point before left. -/
theorem before0_10_B (c : Dev nD) (t : Fin cfg0.N) (h0 : ¬t.val % 128 = 0) (h1 : 1 ≤ t.val % 128) (d) :
    (dat0 V c).before 10 t d = (outsAt0 V c (t.val - 1) (Nat.lt_of_le_of_lt (Nat.sub_le _ _) t.isLt)) := by
  rw [Dat.before_out_traj _ 10 rfl (fun _ _ => rfl) (hcarry0_10 V c) t.val t rfl d,
    if_neg (by rw [notFresh0_10_B t (fun h => h0 ((hcond0_0 t).mp h)) ((hcond0_1 t).mpr h1)]; exact Bool.false_ne_true)]
  dsimp only [dat0]

/-! ## The body obligation, at a generic point -/

/-- What the body is called with at point `t`,. -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d))
    ∗ (∃ d, owns (c : Thread nD τ) (ms0_10 t) fullShare ((dat0 V c).before 10 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t
    ∗ (dat0 V c).leavesExact 9 t
    ∗ (dat0 V c).leavesExact 10 t)

set_option maxHeartbeats 1600000 in
/-- The body at any point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9]
  rw [show (dat0 V c).Φ t.succ = (dat0 V c).Φ t.castSucc from rfl,
    show (dat0 V c).owesAt () t.succ = (dat0 V c).owesAt () t.castSucc from rfl]
  have hN : t.val < 256 := lt_of_lt_of_eq t.isLt (show cfg0.N = 256 from N_0)
  by_cases h0 : t.val % 128 = 0
  · by_cases h1 : 1 ≤ t.val % 128
    · exfalso; omega
    · rw [show (dat0 V c).leavesExact 0 t = owns (c : Thread nD τ) (ms0_0 t) fullShare ((dat0 V c).after 0 t) from by
      unfold Dat.leavesExact; rw [liveAt0_0 t], after0_0]
      rw [show (dat0 V c).leavesExact 1 t = owns (c : Thread nD τ) (ms0_1 t) fullShare ((dat0 V c).after 1 t) from by
      unfold Dat.leavesExact; rw [liveAt0_1 t], after0_1]
      rw [show (dat0 V c).leavesExact 2 t = owns (c : Thread nD τ) (ms0_2 t) fullShare ((dat0 V c).after 2 t) from by
      unfold Dat.leavesExact; rw [liveAt0_2 t], after0_2]
      rw [show (dat0 V c).leavesExact 3 t = owns (c : Thread nD τ) (ms0_3 t) fullShare ((dat0 V c).after 3 t) from by
      unfold Dat.leavesExact; rw [liveAt0_3 t], after0_3]
      rw [show (dat0 V c).leavesExact 4 t = owns (c : Thread nD τ) (ms0_4 t) fullShare ((dat0 V c).after 4 t) from by
      unfold Dat.leavesExact; rw [liveAt0_4 t], after0_4]
      rw [show (dat0 V c).leavesExact 5 t = owns (c : Thread nD τ) (ms0_5 t) fullShare ((dat0 V c).after 5 t) from by
      unfold Dat.leavesExact; rw [liveAt0_5 t], after0_5]
      rw [show (dat0 V c).leavesExact 6 t = owns (c : Thread nD τ) (ms0_6 t) fullShare ((dat0 V c).after 6 t) from by
      unfold Dat.leavesExact; rw [liveAt0_6 t], after0_6]
      rw [show (dat0 V c).leavesExact 7 t = owns (c : Thread nD τ) (ms0_7 t) fullShare ((dat0 V c).after 7 t) from by
      unfold Dat.leavesExact; rw [liveAt0_7 t], after0_7]
      rw [show (dat0 V c).leavesExact 8 t = owns (c : Thread nD τ) (ms0_8 t) fullShare ((dat0 V c).after 8 t) from by
      unfold Dat.leavesExact; rw [liveAt0_8 t], after0_8]
      rw [show (dat0 V c).leavesExact 9 t = owns (c : Thread nD τ) (ms0_9 t) fullShare ((dat0 V c).after 9 t) from by
      unfold Dat.leavesExact; rw [liveAt0_9 t], after0_9]
      rw [show (dat0 V c).leavesExact 10 t = owns (c : Thread nD τ) (ms0_10 t) fullShare ((dat0 V c).after 10 t) from by
      unfold Dat.leavesExact; rw [liveAt0_10_A t ((hcond0_0 t).mpr h0) (fun h => h1 ((hcond0_1 t).mp h))], after0_10]
      rw [outsAt0_A V c t h0 h1]
      unfold out0_A_10
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun0_A c (grid0.coords t) _ _ _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      iintro ⟨H0, H1, H2, H3, H4, H5, H6, H7, H8, H9, ⟨%e10, H10⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      unfold owns; iexists _; isplitr
      swap; · iexact H10
      ipureintro; exact View.read_writes_of_cover _ _ _ _ _ (cover0_A_10 c _ _ _ _ _ _ _ _ _ _ _ _ _ _ _ _ _ _ _ _ _ _ _ _ _ _ _ _ _ _ _ _ _ _ _)
  · by_cases h1 : 1 ≤ t.val % 128
    · rw [show (dat0 V c).leavesExact 0 t = owns (c : Thread nD τ) (ms0_0 t) fullShare ((dat0 V c).after 0 t) from by
      unfold Dat.leavesExact; rw [liveAt0_0 t], after0_0]
      rw [show (dat0 V c).leavesExact 1 t = owns (c : Thread nD τ) (ms0_1 t) fullShare ((dat0 V c).after 1 t) from by
      unfold Dat.leavesExact; rw [liveAt0_1 t], after0_1]
      rw [show (dat0 V c).leavesExact 2 t = owns (c : Thread nD τ) (ms0_2 t) fullShare ((dat0 V c).after 2 t) from by
      unfold Dat.leavesExact; rw [liveAt0_2 t], after0_2]
      rw [show (dat0 V c).leavesExact 3 t = owns (c : Thread nD τ) (ms0_3 t) fullShare ((dat0 V c).after 3 t) from by
      unfold Dat.leavesExact; rw [liveAt0_3 t], after0_3]
      rw [show (dat0 V c).leavesExact 4 t = owns (c : Thread nD τ) (ms0_4 t) fullShare ((dat0 V c).after 4 t) from by
      unfold Dat.leavesExact; rw [liveAt0_4 t], after0_4]
      rw [show (dat0 V c).leavesExact 5 t = owns (c : Thread nD τ) (ms0_5 t) fullShare ((dat0 V c).after 5 t) from by
      unfold Dat.leavesExact; rw [liveAt0_5 t], after0_5]
      rw [show (dat0 V c).leavesExact 6 t = owns (c : Thread nD τ) (ms0_6 t) fullShare ((dat0 V c).after 6 t) from by
      unfold Dat.leavesExact; rw [liveAt0_6 t], after0_6]
      rw [show (dat0 V c).leavesExact 7 t = owns (c : Thread nD τ) (ms0_7 t) fullShare ((dat0 V c).after 7 t) from by
      unfold Dat.leavesExact; rw [liveAt0_7 t], after0_7]
      rw [show (dat0 V c).leavesExact 8 t = owns (c : Thread nD τ) (ms0_8 t) fullShare ((dat0 V c).after 8 t) from by
      unfold Dat.leavesExact; rw [liveAt0_8 t], after0_8]
      rw [show (dat0 V c).leavesExact 9 t = owns (c : Thread nD τ) (ms0_9 t) fullShare ((dat0 V c).after 9 t) from by
      unfold Dat.leavesExact; rw [liveAt0_9 t], after0_9]
      rw [show (dat0 V c).leavesExact 10 t = owns (c : Thread nD τ) (ms0_10 t) fullShare ((dat0 V c).after 10 t) from by
      unfold Dat.leavesExact; rw [liveAt0_10_B t (fun h => h0 ((hcond0_0 t).mp h)) ((hcond0_1 t).mpr h1)], after0_10]
      rw [outsAt0_B V c t h0 h1]
      simp only [before0_10_B V c t h0 h1]
      unfold out0_B_10
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun0_B c (grid0.coords t) _ _ _ _ _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) _).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iintro ⟨H0, H1, H2, H3, H4, H5, H6, H7, H8, H9, ⟨%e10, H10⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      unfold owns; iexists _; isplitr
      swap; · iexact H10
      ipureintro; exact View.read_writes_of_cover _ _ _ _ _ (cover0_B_10 c _ _ _ _ _ _ _ _ _ _ _ _ _ _ _ _ _ _ _ _ _ _ _ _ _ _ _ _ _ _ _ _ _ _ _ _)
    · exfalso; omega

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Run

end
-- ==== Proof.KernelIdealRegion1.lean ====
/- Region 1 of the kernel (the second call): the contents of its two output blocks and the obligation of its body. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.TableIdle
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The contents of the buffers at the region's entry are a parameter. -/
variable (V : (c : Dev nD) → (b : Ref sig .tc) → Buf (Elt F) ((c : Thread nD τ).loc b))

/-! # REGION 1 of @main: custom_call 1, `cc1__stage2_body`, at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof data whose array is `V`'s (`hA`) and whose body leaves the block in place (`hafter`). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof data whose array is `V`'s (`hA`) and whose body leaves the block in place (`hafter`). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof data whose array is `V`'s (`hA`) and whose body leaves the block in place (`hafter`). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof data whose array is `V`'s (`hA`) and whose body leaves the block in place (`hafter`). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for ANY proof data whose array is `V`'s (`hA`) and whose body leaves the block in place (`hafter`). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for ANY proof data whose array is `V`'s (`hA`) and whose body leaves the block in place (`hafter`). -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's current staging buffer holds its block at every point, fetched there or not, for ANY proof data whose array is `V`'s (`hA`) and whose body leaves the block in place (`hafter`). -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
/-- Input window 7's current staging buffer holds its block at every point, fetched there or not, for ANY proof data whose array is `V`'s (`hA`) and whose body leaves the block in place (`hafter`). -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
/-- Input window 8's current staging buffer holds its block at every point, fetched there or not, for ANY proof data whose array is `V`'s (`hA`) and whose body leaves the block in place (`hafter`). -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
/-- Input window 9's current staging buffer holds its block at every point, fetched there or not, for ANY proof data whose array is `V`'s (`hA`) and whose body leaves the block in place (`hafter`). -/
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)
/-- Input window 10's current staging buffer holds its block at every point, fetched there or not, for ANY proof data whose array is `V`'s (`hA`) and whose body leaves the block in place (`hafter`). -/
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)
/-- Input window 11's current staging buffer holds its block at every point, fetched there or not, for ANY proof data whose array is `V`'s (`hA`) and whose body leaves the block in place (`hafter`). -/
theorem before1_11_of {c : Dev nD} (dat : Dat τ (Elt F) Unit ℕ (UR sig nD τ) ℕ cfg1 c) (hA : dat.A 11 = V c (Pipeline.arrRef spec1 11))
    (hafter : ∀ t, dat.after 11 t = iblk1 V c 11 t) (t : Fin cfg1.N) (d) : dat.before 11 t d = iblk1 V c 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)
/-- Input window 12's current staging buffer holds its block at every point, fetched there or not, for ANY proof data whose array is `V`'s (`hA`) and whose body leaves the block in place (`hafter`). -/
theorem before1_12_of {c : Dev nD} (dat : Dat τ (Elt F) Unit ℕ (UR sig nD τ) ℕ cfg1 c) (hA : dat.A 12 = V c (Pipeline.arrRef spec1 12))
    (hafter : ∀ t, dat.after 12 t = iblk1 V c 12 t) (t : Fin cfg1.N) (d) : dat.before 12 t d = iblk1 V c 12 t :=
  (dat.before_in_eq_fetched 12 rfl (fun _ => rfl) (fun _ _ _ => rfl) (fun t => by rw [hafter]; unfold Dat.blockOf iblk1; rw [hA]; try rfl) t d).trans
    (by unfold Dat.fetched Dat.blockOf iblk1; rw [hA]; try rfl)
/-- Input window 13's current staging buffer holds its block at every point, fetched there or not, for ANY proof data whose array is `V`'s (`hA`) and whose body leaves the block in place (`hafter`). -/
theorem before1_13_of {c : Dev nD} (dat : Dat τ (Elt F) Unit ℕ (UR sig nD τ) ℕ cfg1 c) (hA : dat.A 13 = V c (Pipeline.arrRef spec1 13))
    (hafter : ∀ t, dat.after 13 t = iblk1 V c 13 t) (t : Fin cfg1.N) (d) : dat.before 13 t d = iblk1 V c 13 t :=
  (dat.before_in_eq_fetched 13 rfl (fun _ => rfl) (fun _ _ _ => rfl) (fun t => by rw [hafter]; unfold Dat.blockOf iblk1; rw [hA]; try rfl) t d).trans
    (by unfold Dat.fetched Dat.blockOf iblk1; rw [hA]; try rfl)
/-- Input window 14's current staging buffer holds its block at every point, fetched there or not, for ANY proof data whose array is `V`'s (`hA`) and whose body leaves the block in place (`hafter`). -/
theorem before1_14_of {c : Dev nD} (dat : Dat τ (Elt F) Unit ℕ (UR sig nD τ) ℕ cfg1 c) (hA : dat.A 14 = V c (Pipeline.arrRef spec1 14))
    (hafter : ∀ t, dat.after 14 t = iblk1 V c 14 t) (t : Fin cfg1.N) (d) : dat.before 14 t d = iblk1 V c 14 t :=
  (dat.before_in_eq_fetched 14 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- A rectangle the body of region 1 loads or stores. -/
abbrev r1_0 : Rect S2x8x64 := Rect.unit (s := S2x8x64) ![0, 0, 0] S1x8x64.size inb_S2x8x64_S1x8x64_0_0_0
/-- A rectangle the body of region 1 loads or stores. -/
abbrev r1_1 : Rect S2x8x64 := Rect.unit (s := S2x8x64) ![1, 0, 0] S1x8x64.size inb_S2x8x64_S1x8x64_1_0_0
/-- A rectangle the body of region 1 loads or stores. -/
abbrev r1_2 : Rect S128x8 := Rect.unit (s := S128x8) ![0, 0] S128x8.size inb_S128x8_S128x8_0_0
/-- A rectangle the body of region 1 loads or stores. -/
abbrev r1_3 : Rect S128x64 := Rect.unit (s := S128x64) ![0, 0] S128x64.size inb_S128x64_S128x64_0_0
/-- A rectangle the body of region 1 loads or stores. -/
abbrev r1_4 : Rect S1x64 := Rect.unit (s := S1x64) ![0, 0] S1x64.size inb_S1x64_S1x64_0_0
/-- A rectangle the body of region 1 loads or stores. -/
abbrev r1_5 : Rect S64x64 := Rect.unit (s := S64x64) ![0, 0] S64x64.size inb_S64x64_S64x64_0_0
/-- A rectangle the body of region 1 loads or stores. -/
abbrev r1_6 : Rect S64x8 := Rect.unit (s := S64x8) ![0, 0] S64x8.size inb_S64x8_S64x8_0_0
/-- A rectangle the body of region 1 loads or stores. -/
abbrev r1_7 : Rect S1x8 := Rect.unit (s := S1x8) ![0, 0] S1x8.size inb_S1x8_S1x8_0_0
/-- A rectangle the body of region 1 loads or stores. -/
abbrev r1_8 : Rect S1x1 := Rect.unit (s := S1x1) ![0, 0] S1x1.size inb_S1x1_S1x1_0_0

/-! ## What the body leaves in each output window's buffer -/

/-! ### Values of the body that the stores' payloads, spelt out, would write more than once Each is a vector the body binds, stated over the input windows' blocks and numbered on from the skeleton's payload functions, so that `out1_W` and the values after it name it instead of spelling it out; the comment after each is the printed function's name for the value. -/

/-- A value of the body of region 1 that several stores use. -/
def k1_pay10 (x0 : Vec F S2x8x64 .f32) (x1 : Vec F S128x64 .f32) (x2 : Vec F S128x8 .i32) (x3 : Vec F S1x64 .f32) (x4 : Vec F S1x64 .f32) (x5 : Vec F S64x64 .f32) (x6 : Vec F S1x64 .f32) (x7 : Vec F S64x64 .f32) (x8 : Vec F S1x64 .f32) (x9 : Vec F S128x64 .f32) (x10 : Vec F S1x64 .f32) (x11 : Vec F S64x64 .f32) (x12 : Vec F S1x64 .f32) (x13 : Vec F S64x8 .f32) (x14 : Vec F S1x8 .f32) : IVec S128x8 1 :=
  k1_pay4 (View.ld x2 r1_2)
/-- A value of the body of region 1 that several stores use. -/
def k1_pay11 (x0 : Vec F S2x8x64 .f32) (x1 : Vec F S128x64 .f32) (x2 : Vec F S128x8 .i32) (x3 : Vec F S1x64 .f32) (x4 : Vec F S1x64 .f32) (x5 : Vec F S64x64 .f32) (x6 : Vec F S1x64 .f32) (x7 : Vec F S64x64 .f32) (x8 : Vec F S1x64 .f32) (x9 : Vec F S128x64 .f32) (x10 : Vec F S1x64 .f32) (x11 : Vec F S64x64 .f32) (x12 : Vec F S1x64 .f32) (x13 : Vec F S64x8 .f32) (x14 : Vec F S1x8 .f32) : FVec F S128x8 .f32 :=
  k1_pay5 (View.ld x2 r1_2)
/-- A value of the body of region 1 that several stores use. -/
def k1_pay12 (x0 : Vec F S2x8x64 .f32) (x1 : Vec F S128x64 .f32) (x2 : Vec F S128x8 .i32) (x3 : Vec F S1x64 .f32) (x4 : Vec F S1x64 .f32) (x5 : Vec F S64x64 .f32) (x6 : Vec F S1x64 .f32) (x7 : Vec F S64x64 .f32) (x8 : Vec F S1x64 .f32) (x9 : Vec F S128x64 .f32) (x10 : Vec F S1x64 .f32) (x11 : Vec F S64x64 .f32) (x12 : Vec F S1x64 .f32) (x13 : Vec F S64x8 .f32) (x14 : Vec F S1x8 .f32) : FVec F S128x64 .f32 :=
  k1_pay6 (View.ld x0 r1_0) (View.ld x0 r1_1) (View.ld x2 r1_2)
/-- A value of the body of region 1 that several stores use. -/
def k1_pay13 (x0 : Vec F S2x8x64 .f32) (x1 : Vec F S128x64 .f32) (x2 : Vec F S128x8 .i32) (x3 : Vec F S1x64 .f32) (x4 : Vec F S1x64 .f32) (x5 : Vec F S64x64 .f32) (x6 : Vec F S1x64 .f32) (x7 : Vec F S64x64 .f32) (x8 : Vec F S1x64 .f32) (x9 : Vec F S128x64 .f32) (x10 : Vec F S1x64 .f32) (x11 : Vec F S64x64 .f32) (x12 : Vec F S1x64 .f32) (x13 : Vec F S64x8 .f32) (x14 : Vec F S1x8 .f32) : FVec F S128x64 .f32 :=
  k1_pay7 (View.ld x1 r1_3) (View.ld x3 r1_4) (View.ld x4 r1_4) (View.ld x5 r1_5) (View.ld x6 r1_4) (View.ld x7 r1_5)
/-- A value of the body of region 1 that several stores use. -/
def k1_pay14 (x0 : Vec F S2x8x64 .f32) (x1 : Vec F S128x64 .f32) (x2 : Vec F S128x8 .i32) (x3 : Vec F S1x64 .f32) (x4 : Vec F S1x64 .f32) (x5 : Vec F S64x64 .f32) (x6 : Vec F S1x64 .f32) (x7 : Vec F S64x64 .f32) (x8 : Vec F S1x64 .f32) (x9 : Vec F S128x64 .f32) (x10 : Vec F S1x64 .f32) (x11 : Vec F S64x64 .f32) (x12 : Vec F S1x64 .f32) (x13 : Vec F S64x8 .f32) (x14 : Vec F S1x8 .f32) : FVec F S128x8 .f32 :=
  k1_pay8 (k1_pay12 x0 x1 x2 x3 x4 x5 x6 x7 x8 x9 x10 x11 x12 x13 x14) (k1_pay13 x0 x1 x2 x3 x4 x5 x6 x7 x8 x9 x10 x11 x12 x13 x14) (View.ld x8 r1_4) (View.ld x9 r1_3) (View.ld x10 r1_4) (View.ld x11 r1_5) (View.ld x12 r1_4) (View.ld x13 r1_6) (View.ld x14 r1_7)
/-- A value of the body of region 1 that several stores use. -/
def k1_pay15 (x0 : Vec F S2x8x64 .f32) (x1 : Vec F S128x64 .f32) (x2 : Vec F S128x8 .i32) (x3 : Vec F S1x64 .f32) (x4 : Vec F S1x64 .f32) (x5 : Vec F S64x64 .f32) (x6 : Vec F S1x64 .f32) (x7 : Vec F S64x64 .f32) (x8 : Vec F S1x64 .f32) (x9 : Vec F S128x64 .f32) (x10 : Vec F S1x64 .f32) (x11 : Vec F S64x64 .f32) (x12 : Vec F S1x64 .f32) (x13 : Vec F S64x8 .f32) (x14 : Vec F S1x8 .f32) : FVec F S8 .f32 :=
  k1_pay9 (k1_pay10 x0 x1 x2 x3 x4 x5 x6 x7 x8 x9 x10 x11 x12 x13 x14) (k1_pay12 x0 x1 x2 x3 x4 x5 x6 x7 x8 x9 x10 x11 x12 x13 x14) (k1_pay13 x0 x1 x2 x3 x4 x5 x6 x7 x8 x9 x10 x11 x12 x13 x14) (View.ld x8 r1_4) (View.ld x9 r1_3) (View.ld x10 r1_4) (View.ld x11 r1_5) (View.ld x12 r1_4) (View.ld x13 r1_6) (View.ld x14 r1_7)

/-- Window 15's staging buffer after the body, from the input windows' blocks. -/
def out1_15 (x0 : Vec F S2x8x64 .f32) (x1 : Vec F S128x64 .f32) (x2 : Vec F S128x8 .i32) (x3 : Vec F S1x64 .f32) (x4 : Vec F S1x64 .f32) (x5 : Vec F S64x64 .f32) (x6 : Vec F S1x64 .f32) (x7 : Vec F S64x64 .f32) (x8 : Vec F S1x64 .f32) (x9 : Vec F S128x64 .f32) (x10 : Vec F S1x64 .f32) (x11 : Vec F S64x64 .f32) (x12 : Vec F S1x64 .f32) (x13 : Vec F S64x8 .f32) (x14 : Vec F S1x8 .f32) : Vec F S1x1 .f32 :=
  View.canon [⟨r1_8, k1_pay2 (k1_pay11 x0 x1 x2 x3 x4 x5 x6 x7 x8 x9 x10 x11 x12 x13 x14) (k1_pay14 x0 x1 x2 x3 x4 x5 x6 x7 x8 x9 x10 x11 x12 x13 x14) (k1_pay15 x0 x1 x2 x3 x4 x5 x6 x7 x8 x9 x10 x11 x12 x13 x14)⟩]

/-- Its stores tile the buffer (checked by evaluation), so they cover it. -/
theorem cover1_15 (p0 : Vec F S1x1 .f32) (y : S1x1.Idx) :
    ∃ pc ∈ ([⟨r1_8, p0⟩] : List (View.Piece (Elt F) S1x1 .f32)), y ∈ pc.1.set :=
  View.cover_of_tiled [⟨r1_8, p0⟩] S1x1.size (by rfl) y

/-- Window 16's staging buffer after the body, from the input windows' blocks. -/
def out1_16 (x0 : Vec F S2x8x64 .f32) (x1 : Vec F S128x64 .f32) (x2 : Vec F S128x8 .i32) (x3 : Vec F S1x64 .f32) (x4 : Vec F S1x64 .f32) (x5 : Vec F S64x64 .f32) (x6 : Vec F S1x64 .f32) (x7 : Vec F S64x64 .f32) (x8 : Vec F S1x64 .f32) (x9 : Vec F S128x64 .f32) (x10 : Vec F S1x64 .f32) (x11 : Vec F S64x64 .f32) (x12 : Vec F S1x64 .f32) (x13 : Vec F S64x8 .f32) (x14 : Vec F S1x8 .f32) : Vec F S1x8 .f32 :=
  View.canon [⟨r1_7, k1_pay3 (k1_pay10 x0 x1 x2 x3 x4 x5 x6 x7 x8 x9 x10 x11 x12 x13 x14) (k1_pay11 x0 x1 x2 x3 x4 x5 x6 x7 x8 x9 x10 x11 x12 x13 x14) (View.ld x1 r1_3) (k1_pay14 x0 x1 x2 x3 x4 x5 x6 x7 x8 x9 x10 x11 x12 x13 x14) (k1_pay15 x0 x1 x2 x3 x4 x5 x6 x7 x8 x9 x10 x11 x12 x13 x14)⟩]

/-- Its stores tile the buffer (checked by evaluation), so they cover it. -/
theorem cover1_16 (p0 : Vec F S1x8 .f32) (y : S1x8.Idx) :
    ∃ pc ∈ ([⟨r1_7, p0⟩] : List (View.Piece (Elt F) S1x8 .f32)), y ∈ pc.1.set :=
  View.cover_of_tiled [⟨r1_7, p0⟩] S1x8.size (by rfl) y

/-! ## The body's triple -/

set_option maxHeartbeats 1000000 in
/-- The kernel body on whole staging memrefs, the inputs' at read contents `xW` and the outputs' at anything, runs to the continuation holding the inputs' as they were and each output's at `out1_W` of the inputs'. -/
theorem sound_kernel1 (c : Dev nD) (E : Set ℕ) (arg0 : Memref sig .tc .vmem S2x8x64 .f32) (harg0 : arg0.IsWhole) (arg1 : Memref sig .tc .vmem S128x64 .f32) (harg1 : arg1.IsWhole) (arg2 : Memref sig .tc .vmem S128x8 .i32) (harg2 : arg2.IsWhole) (arg3 : Memref sig .tc .vmem S1x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S128x64 .f32) (harg9 : arg9.IsWhole) (arg10 : Memref sig .tc .vmem S1x64 .f32) (harg10 : arg10.IsWhole) (arg11 : Memref sig .tc .vmem S64x64 .f32) (harg11 : arg11.IsWhole) (arg12 : Memref sig .tc .vmem S1x64 .f32) (harg12 : arg12.IsWhole) (arg13 : Memref sig .tc .vmem S64x8 .f32) (harg13 : arg13.IsWhole) (arg14 : Memref sig .tc .vmem S1x8 .f32) (harg14 : arg14.IsWhole) (arg15 : Memref sig .tc .vmem S1x1 .f32) (harg15 : arg15.IsWhole) (arg16 : Memref sig .tc .vmem S1x8 .f32) (harg16 : arg16.IsWhole)
    (x0 : Vec F S2x8x64 .f32) (x1 : Vec F S128x64 .f32) (x2 : Vec F S128x8 .i32) (x3 : Vec F S1x64 .f32) (x4 : Vec F S1x64 .f32) (x5 : Vec F S64x64 .f32) (x6 : Vec F S1x64 .f32) (x7 : Vec F S64x64 .f32) (x8 : Vec F S1x64 .f32) (x9 : Vec F S128x64 .f32) (x10 : Vec F S1x64 .f32) (x11 : Vec F S64x64 .f32) (x12 : Vec F S1x64 .f32) (x13 : Vec F S64x8 .f32) (x14 : Vec F S1x8 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ (∃ d, owns (c : Thread nD τ) arg15 fullShare d) ∗ (∃ d, owns (c : Thread nD τ) arg16 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare (out1_15 x0 x1 x2 x3 x4 x5 x6 x7 x8 x9 x10 x11 x12 x13 x14) ∗ owns (c : Thread nD τ) arg16 fullShare (out1_16 x0 x1 x2 x3 x4 x5 x6 x7 x8 x9 x10 x11 x12 x13 x14)) -∗ K ⟨⟩))
      ⊢ wp frame (wpE (defs₀ (F := F)) Variants.none c none) E (cc1__stage2_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc1__stage2_body_eq_skeleton]; unfold cc1__stage2_body_skel
  simp only [k1_part1_eq_skeleton, k1_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, Hk⟩
  subst hf0 hf1 hf2 hf3 hf4 hf5 hf6 hf7 hf8 hf9 hf10 hf11 hf12 hf13 hf14
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists _; isplitr
    swap; · iexact H15
    ipureintro
    refine (View.read_writes_eq_canon _ _ _ (cover1_15 _)).trans ?_
    rfl
  iexists _; isplitr
  swap; · iexact H16
  ipureintro
  refine (View.read_writes_eq_canon _ _ _ (cover1_16 _)).trans ?_
  rfl

/-! ## The pipeline's proof data -/

/-- The proof data of pipeline 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => iblk1 V c 13 t
    | ⟨14, _⟩ => iblk1 V c 14 t
    | ⟨15, _⟩ => out1_15 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t)
    | ⟨16, _⟩ => out1_16 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t)
    | ⟨_ + 17, h⟩ => absurd h (Nat.not_lt.2 (Nat.le_add_left _ _))
  Φ _ := Pipeline.ΦA spec1 c
  q _ := fullShare
  owed _ := 0

/-- The proof data's arrays are the region-entry contents, by projecting the definition (`dsimp`). -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
/-- What the buffer of window 1 of region 1 holds after the body. -/
theorem after1_1 (c : Dev nD) (t : Fin cfg1.N) : (dat1 V c).after 1 t = iblk1 V c 1 t := by dsimp only [dat1]
/-- What the buffer of window 2 of region 1 holds after the body. -/
theorem after1_2 (c : Dev nD) (t : Fin cfg1.N) : (dat1 V c).after 2 t = iblk1 V c 2 t := by dsimp only [dat1]
/-- What the buffer of window 3 of region 1 holds after the body. -/
theorem after1_3 (c : Dev nD) (t : Fin cfg1.N) : (dat1 V c).after 3 t = iblk1 V c 3 t := by dsimp only [dat1]
/-- What the buffer of window 4 of region 1 holds after the body. -/
theorem after1_4 (c : Dev nD) (t : Fin cfg1.N) : (dat1 V c).after 4 t = iblk1 V c 4 t := by dsimp only [dat1]
/-- What the buffer of window 5 of region 1 holds after the body. -/
theorem after1_5 (c : Dev nD) (t : Fin cfg1.N) : (dat1 V c).after 5 t = iblk1 V c 5 t := by dsimp only [dat1]
/-- What the buffer of window 6 of region 1 holds after the body. -/
theorem after1_6 (c : Dev nD) (t : Fin cfg1.N) : (dat1 V c).after 6 t = iblk1 V c 6 t := by dsimp only [dat1]
/-- What the buffer of window 7 of region 1 holds after the body. -/
theorem after1_7 (c : Dev nD) (t : Fin cfg1.N) : (dat1 V c).after 7 t = iblk1 V c 7 t := by dsimp only [dat1]
/-- What the buffer of window 8 of region 1 holds after the body. -/
theorem after1_8 (c : Dev nD) (t : Fin cfg1.N) : (dat1 V c).after 8 t = iblk1 V c 8 t := by dsimp only [dat1]
/-- What the buffer of window 9 of region 1 holds after the body. -/
theorem after1_9 (c : Dev nD) (t : Fin cfg1.N) : (dat1 V c).after 9 t = iblk1 V c 9 t := by dsimp only [dat1]
/-- What the buffer of window 10 of region 1 holds after the body. -/
theorem after1_10 (c : Dev nD) (t : Fin cfg1.N) : (dat1 V c).after 10 t = iblk1 V c 10 t := by dsimp only [dat1]
/-- What the buffer of window 11 of region 1 holds after the body. -/
theorem after1_11 (c : Dev nD) (t : Fin cfg1.N) : (dat1 V c).after 11 t = iblk1 V c 11 t := by dsimp only [dat1]
/-- What the buffer of window 12 of region 1 holds after the body. -/
theorem after1_12 (c : Dev nD) (t : Fin cfg1.N) : (dat1 V c).after 12 t = iblk1 V c 12 t := by dsimp only [dat1]
/-- What the buffer of window 13 of region 1 holds after the body. -/
theorem after1_13 (c : Dev nD) (t : Fin cfg1.N) : (dat1 V c).after 13 t = iblk1 V c 13 t := by dsimp only [dat1]
/-- What the buffer of window 14 of region 1 holds after the body. -/
theorem after1_14 (c : Dev nD) (t : Fin cfg1.N) : (dat1 V c).after 14 t = iblk1 V c 14 t := by dsimp only [dat1]
/-- What the buffer of window 15 of region 1 holds after the body. -/
theorem after1_15 (c : Dev nD) (t : Fin cfg1.N) : (dat1 V c).after 15 t = out1_15 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) := by dsimp only [dat1]
/-- What the buffer of window 16 of region 1 holds after the body. -/
theorem after1_16 (c : Dev nD) (t : Fin cfg1.N) : (dat1 V c).after 16 t = out1_16 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
/-- The buffer of window 1 of region 1 holds its block before the body runs. -/
theorem before1_1 (c : Dev nD) (t : Fin cfg1.N) (d) : (dat1 V c).before 1 t d = iblk1 V c 1 t :=
  before1_1_of V (dat1 V c) (A_eq1 V c 1) (after1_1 V c) t d
/-- The buffer of window 2 of region 1 holds its block before the body runs. -/
theorem before1_2 (c : Dev nD) (t : Fin cfg1.N) (d) : (dat1 V c).before 2 t d = iblk1 V c 2 t :=
  before1_2_of V (dat1 V c) (A_eq1 V c 2) (after1_2 V c) t d
/-- The buffer of window 3 of region 1 holds its block before the body runs. -/
theorem before1_3 (c : Dev nD) (t : Fin cfg1.N) (d) : (dat1 V c).before 3 t d = iblk1 V c 3 t :=
  before1_3_of V (dat1 V c) (A_eq1 V c 3) (after1_3 V c) t d
/-- The buffer of window 4 of region 1 holds its block before the body runs. -/
theorem before1_4 (c : Dev nD) (t : Fin cfg1.N) (d) : (dat1 V c).before 4 t d = iblk1 V c 4 t :=
  before1_4_of V (dat1 V c) (A_eq1 V c 4) (after1_4 V c) t d
/-- The buffer of window 5 of region 1 holds its block before the body runs. -/
theorem before1_5 (c : Dev nD) (t : Fin cfg1.N) (d) : (dat1 V c).before 5 t d = iblk1 V c 5 t :=
  before1_5_of V (dat1 V c) (A_eq1 V c 5) (after1_5 V c) t d
/-- The buffer of window 6 of region 1 holds its block before the body runs. -/
theorem before1_6 (c : Dev nD) (t : Fin cfg1.N) (d) : (dat1 V c).before 6 t d = iblk1 V c 6 t :=
  before1_6_of V (dat1 V c) (A_eq1 V c 6) (after1_6 V c) t d
/-- The buffer of window 7 of region 1 holds its block before the body runs. -/
theorem before1_7 (c : Dev nD) (t : Fin cfg1.N) (d) : (dat1 V c).before 7 t d = iblk1 V c 7 t :=
  before1_7_of V (dat1 V c) (A_eq1 V c 7) (after1_7 V c) t d
/-- The buffer of window 8 of region 1 holds its block before the body runs. -/
theorem before1_8 (c : Dev nD) (t : Fin cfg1.N) (d) : (dat1 V c).before 8 t d = iblk1 V c 8 t :=
  before1_8_of V (dat1 V c) (A_eq1 V c 8) (after1_8 V c) t d
/-- The buffer of window 9 of region 1 holds its block before the body runs. -/
theorem before1_9 (c : Dev nD) (t : Fin cfg1.N) (d) : (dat1 V c).before 9 t d = iblk1 V c 9 t :=
  before1_9_of V (dat1 V c) (A_eq1 V c 9) (after1_9 V c) t d
/-- The buffer of window 10 of region 1 holds its block before the body runs. -/
theorem before1_10 (c : Dev nD) (t : Fin cfg1.N) (d) : (dat1 V c).before 10 t d = iblk1 V c 10 t :=
  before1_10_of V (dat1 V c) (A_eq1 V c 10) (after1_10 V c) t d
/-- The buffer of window 11 of region 1 holds its block before the body runs. -/
theorem before1_11 (c : Dev nD) (t : Fin cfg1.N) (d) : (dat1 V c).before 11 t d = iblk1 V c 11 t :=
  before1_11_of V (dat1 V c) (A_eq1 V c 11) (after1_11 V c) t d
/-- The buffer of window 12 of region 1 holds its block before the body runs. -/
theorem before1_12 (c : Dev nD) (t : Fin cfg1.N) (d) : (dat1 V c).before 12 t d = iblk1 V c 12 t :=
  before1_12_of V (dat1 V c) (A_eq1 V c 12) (after1_12 V c) t d
/-- The buffer of window 13 of region 1 holds its block before the body runs. -/
theorem before1_13 (c : Dev nD) (t : Fin cfg1.N) (d) : (dat1 V c).before 13 t d = iblk1 V c 13 t :=
  before1_13_of V (dat1 V c) (A_eq1 V c 13) (after1_13 V c) t d
/-- The buffer of window 14 of region 1 holds its block before the body runs. -/
theorem before1_14 (c : Dev nD) (t : Fin cfg1.N) (d) : (dat1 V c).before 14 t d = iblk1 V c 14 t :=
  before1_14_of V (dat1 V c) (A_eq1 V c 14) (after1_14 V c) t d

/-! ## The body obligation, at a generic point -/

/-- What the body is called with at point `t`,. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d))
    ∗ (∃ d, owns (c : Thread nD τ) (st1_14 t) fullShare ((dat1 V c).before 14 t d))
    ∗ (∃ d, owns (c : Thread nD τ) (st1_15 t) fullShare ((dat1 V c).before 15 t d))
    ∗ (∃ d, owns (c : Thread nD τ) (st1_16 t) fullShare ((dat1 V c).before 16 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t)
    ∗ owns (c : Thread nD τ) (st1_13 t) fullShare ((dat1 V c).after 13 t)
    ∗ owns (c : Thread nD τ) (st1_14 t) fullShare ((dat1 V c).after 14 t)
    ∗ owns (c : Thread nD τ) (st1_15 t) fullShare ((dat1 V c).after 15 t)
    ∗ owns (c : Thread nD τ) (st1_16 t) fullShare ((dat1 V c).after 16 t))

/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11, before1_12, before1_13, before1_14]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12, after1_13, after1_14, after1_15, after1_16]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply (sound_kernel1 c Set.univ _ _ _ _ _ _ _ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [H16]; · iexists _; iexact H16
  iintro ⟨H0, H1, H2, H3, H4, H5, H6, H7, H8, H9, H10, H11, H12, H13, H14, H15, H16⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.KernelIdeal.Run

end
-- ==== Proof.KernelIdealRun.lean ====
/- The run of the kernel: its two regions among the stretches of host operations, from the launch to the return. -/
module

public import proofs.«01_k».proof.Proof.KernelIdealRegion0
public import proofs.«01_k».proof.Proof.KernelIdealRegion1

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return -/

/-- @main's argument arrays, as TensorCore references. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23]

/-! ## The host stretches: none allocates a buffer, and each lists the references its operations write, in order, so that a reference absent from the list keeps its contents across the stretch -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2, main_v3, main_v4, main_v5, main_v6, main_v7, main_v8]
/-- The references host stretch 0 writes. -/
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays. -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v10, main_v11, main_v12, main_v13, main_v14, main_v15, main_v16, main_v17, main_v18, main_v19, main_v20, main_v21, main_v22, main_v23, main_v24, main_v25, main_v26, main_v27, main_v28, main_v29, main_v30, main_v31, main_v32, main_v33, main_v34]
/-- The references host stretch 1 writes. -/
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays. -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v36, main_v37]
/-- The references host stretch 2 writes. -/
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays. -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
/-- Every argument is as launched at boundary 0. -/
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
/-- Every argument is as launched at boundary 1. -/
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit. -/
def W2 (c : Dev nD) : Valuation τ sig (Elt F) :=
  Pipeline.withArrays spec0 c (W1 m ρ c) fun w => (dat0 (V1 m ρ) c).arrAt w cfg0.N
/-- An array of the region after it. -/
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
/-- A buffer that is no array of the region keeps its contents. -/
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's. -/
theorem argsIn0 : ∀ a ∈ argRefs, ∀ w : Fin cfg0.W, Pipeline.arrRef spec0 w = a → (cfg0.win w).isOut = false :=
  ListAll.forall_mem_of_all_decide (by decide +kernel)
/-- Every argument is as launched at boundary 2. -/
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it held at entry (`hrest0`). -/
theorem hF0 (c : Dev nD) (w : Fin cfg0.W) : (dat0 (V1 m ρ) c).arrAt w cfg0.N = V2 m ρ c (Pipeline.arrRef spec0 w) :=
  (W2_arr m ρ c w).symm
/-- The buffers that are no array of region 0 keep their contents. -/
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
/-- Every argument is as launched at boundary 3. -/
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit. -/
def W4 (c : Dev nD) : Valuation τ sig (Elt F) :=
  Pipeline.withArrays spec1 c (W3 m ρ c) fun w => (dat1 (V3 m ρ) c).arrAt w cfg1.N
/-- An array of the region after it. -/
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
/-- A buffer that is no array of the region keeps its contents. -/
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's. -/
theorem argsIn1 : ∀ a ∈ argRefs, ∀ w : Fin cfg1.W, Pipeline.arrRef spec1 w = a → (cfg1.win w).isOut = false :=
  ListAll.forall_mem_of_all_decide (by decide +kernel)
/-- Every argument is as launched at boundary 4. -/
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it held at entry (`hrest1`). -/
theorem hF1 (c : Dev nD) (w : Fin cfg1.W) : (dat1 (V3 m ρ) c).arrAt w cfg1.N = V4 m ρ c (Pipeline.arrRef spec1 w) :=
  (W4_arr m ρ c w).symm
/-- The buffers that are no array of region 1 keep their contents. -/
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2`. -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
/-- Every argument is as launched at boundary 5. -/
theorem W5_args (c : Dev nD) : ∀ a ∈ argRefs, W5 m ρ c (Proc.devRef .tc a) = m ((c : Thread nD τ).loc a) :=
  fun a ha => (W5_of m ρ c a (hostOps2_args a ha)).trans (W4_args m ρ c a ha)

/-! ## The proof data family and the thread state -/

/-- The prefetched tables' admissible contents. -/
abbrev adm : (p : Fin 2) → (pcfgs (F := F) p).Adm := fun p => (cfgs p).toPCfg_adm
/-- Every pipeline's proof data, each at its region's entry contents — a literal `match`, so that the kit's `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
/-- No variants are used. -/
abbrev 𝒱₀ : Variants := Variants.none
/-- No core owes another anything. -/
abbrev L : GSem nD τ sig → Finset Unit := fun _ => ∅
/-- No level is assigned. -/
abbrev lv : GSem nD τ sig → Unit → ℕ := fun _ _ => 0
/-- What rides beside the buffers through every segment. -/
abbrev R (c : Dev nD) : sProp 𝕄 := iprop((∃ r, prngReg c r) ∗ ∃ W, owes (c : Thread nD τ) (0 : CellTallies nD τ sig Unit) W)
/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing). -/
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- REGION 0 (custom_call 0) over the thread state. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 (custom_call 1) over the thread state. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 5 segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- @main IS the run of the segments. -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

/-- An argument is among the references the thread state holds. -/
theorem args_unscoped : ∀ a ∈ argRefs, ¬ (Proc.devRef .tc a : DevRef τ sig).isScoped :=
  ListAll.forall_mem_of_all_decide (by decide +kernel)

set_option backward.isDefEq.respectTransparency.types false in
/-- The run of the kernel: from any memory with zero counters every weakly fair execution of the program ends,
    with every unscoped buffer at the contents of the last boundary and every semaphore counter at zero. -/
theorem run_main : θ_run defs (onTc (τ := τ) (main (F := F))) ⟨m, fun _ => 0, ρ⟩ (fun r =>
      (∀ c : Dev nD, ∀ b ∈ Pipeline.ucRefs τ sig, r.2.mem (((c : Thread nD τ)).1, b) = W5 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨h, funext fun g => hz g (.inr (no_unscoped g.2))⟩)

/-- The run read at the result buffers and the arguments: the two results hold what the last boundary holds, every
    argument is as launched. -/
theorem run_results : θ_run defs (onTc (τ := τ) (main (F := F))) ⟨m, fun _ => 0, ρ⟩ (fun r =>
      (∀ c : Dev nD,
        (r.2.mem ((c.tc : Thread nD τ).loc main_v36) = W5 m ρ c (Proc.devRef .tc main_v36)
        ∧ r.2.mem ((c.tc : Thread nD τ).loc main_v37) = W5 m ρ c (Proc.devRef .tc main_v37))
        ∧ ∀ a ∈ argRefs, r.2.mem ((c.tc : Thread nD τ).loc a) = m ((c.tc : Thread nD τ).loc a))
      ∧ r.2.sem = fun _ => 0) :=
  (θ_run defs _ _).mono (fun _ h => ⟨fun c => ⟨⟨h.1 c _ (mem_uc main_v36 (by decide)), h.1 c _ (mem_uc main_v37 (by decide))⟩,
    fun a ha => (h.1 c _ (mem_uc a (args_unscoped a ha))).trans (W5_args m ρ c a ha)⟩, h.2⟩) (run_main m ρ)

end Cert.KernelIdeal.Run

end
-- ==== Proof.Layers.lean ====
/- The multilayer perceptrons of the problem at the extended reals: the functions of one row, and the operations of
   the two programs read at an index as these functions. -/
module

public import Idealize.ShloMosaic.Lib.MatmulPlain
public import Idealize.ShloMosaic.Lib.StackMember
public import Idealize.ShloMosaic.Lib.Pipeline.Value
public import Idealize.ShloMosaic.Lib.ValueIdx

@[expose] public section

set_option maxRecDepth 16384

noncomputable section

namespace Cert.Spec

open Idealize.ShloMosaic Idealize.ShloMosaic.ValueIdx Idealize.ShloMosaic.Pipeline
open scoped BigOperators

/-- An array of extended reals with two axes. -/
abbrev Mat (m n : Nat) := (⟨2, ![m, n]⟩ : Shape).Idx → EReal
/-- An array of extended reals with one axis. -/
abbrev Arr (n : Nat) := (⟨1, ![n]⟩ : Shape).Idx → EReal

/-- One linear layer without its activation: `W x + b`. -/
def linear {k n : Nat} (x : Fin k → EReal) (W : Mat n k) (b : Arr n) (j : Fin n) : EReal :=
  (∑ i : Fin k, x i * W (ix2 j i)) + b (ix1 j)

/-- One linear layer and the positive part of its result. -/
def dense {k n : Nat} (x : Fin k → EReal) (W : Mat n k) (b : Arr n) (j : Fin n) : EReal := max (linear x W b j) 0

/-- Three layers, each with its positive part. -/
def mlp {k n : Nat} (x : Fin k → EReal) (w1 : Mat 64 k) (b1 : Arr 64) (w2 : Mat 64 64) (b2 : Arr 64) (w3 : Mat n 64)
    (b3 : Arr n) : Fin n → EReal := dense (dense (dense x w1 b1) w2 b2) w3 b3

/-- The gated row: the logistic function of the attention layer, times the row. -/
def gated {n : Nat} (h : Fin n → EReal) (aw : Mat n n) (ab : Arr n) (j : Fin n) : EReal :=
  Ideal.logistic (linear h aw ab j) * h j

/-- The one-hot entry of a word and a number: `1` when the word is the number, `0` otherwise. -/
def hot (w : BitVec 32) {n : Nat} (g : Fin n) : EReal := if w = BitVec.ofNat 32 g.val then 1 else 0

/-- The pooled features of group `g`: the sum of the gated rows whose segment number is `g`. -/
def pooled {n : Nat} (x : Mat n 32) (seg : (⟨1, ![n]⟩ : Shape).Idx → BitVec 32) (w1 : Mat 64 32) (b1 : Arr 64) (w2 : Mat 64 64)
    (b2 : Arr 64) (w3 : Mat 64 64) (b3 : Arr 64) (aw : Mat 64 64) (ab : Arr 64) (g : Fin 8) (c : Fin 64) : EReal :=
  ∑ r : Fin n, hot (seg (ix1 r)) g * gated (mlp (fun k => x (ix2 r k)) w1 b1 w2 b2 w3 b3) aw ab c

/-- Two feature vectors, one after the other. -/
def pair (p q : Fin 64 → EReal) (i : Fin 128) : EReal :=
  if h : i.val < 64 then p ⟨i.val, h⟩ else q ⟨i.val - 64, by omega⟩

/-- The score of a candidate factor: the third perceptron on the group's features and the features of the factor. -/
def logit (p : Fin 64 → EReal) (factor : EReal) (u1 : Mat 64 1) (c1 : Arr 64) (u2 : Mat 64 64) (c2 : Arr 64) (u3 : Mat 64 64)
    (c3 : Arr 64) (s1 : Mat 64 128) (d1 : Arr 64) (s2 : Mat 64 64) (d2 : Arr 64) (s3 : Mat 1 64) (d3 : Arr 1) : EReal :=
  mlp (pair p (mlp (fun _ : Fin 1 => factor) u1 c1 u2 c2 u3 c3)) s1 d1 s2 d2 s3 d3 (0 : Fin 1)

/-- The score of factor `f`, from all arguments, where `q f` is the factor's group. -/
def score (x : Mat 1048576 32) (factors : Mat 128 1) (seg : (⟨1, ![1048576]⟩ : Shape).Idx → BitVec 32)
    (w1 : Mat 64 32) (b1 : Arr 64) (w2 : Mat 64 64) (b2 : Arr 64) (w3 : Mat 64 64) (b3 : Arr 64) (aw : Mat 64 64) (ab : Arr 64)
    (u1 : Mat 64 1) (c1 : Arr 64) (u2 : Mat 64 64) (c2 : Arr 64) (u3 : Mat 64 64) (c3 : Arr 64)
    (s1 : Mat 64 128) (d1 : Arr 64) (s2 : Mat 64 64) (d2 : Arr 64) (s3 : Mat 1 64) (d3 : Arr 1)
    (q : Fin 128 → Fin 8) (f : Fin 128) : EReal :=
  logit (pooled x seg w1 b1 w2 b2 w3 b3 aw ab (q f)) (factors (ix2 f 0)) u1 c1 u2 c2 u3 c3 s1 d1 s2 d2 s3 d3

section Kernel
variable {M K N : Nat}

/-- A row vector repeated over the rows of a matrix, read at an index. -/
theorem rowBroadcast_apply {α : Type} (b : (⟨2, ![1, N]⟩ : Shape).Idx → α)
    (h : (⟨2, ![1, N]⟩ : Shape).Broadcasts ⟨2, ![M, N]⟩) (r : Fin M) (c : Fin N) :
    broadcastTo ⟨2, ![M, N]⟩ b h (ix2 r c) = b (ix2 0 c) :=
  broadcastTo_apply b h _ _ fun a => by
    match a with
    | ⟨0, _⟩ => show (0 : Nat) = if (1 : Nat) = 1 then 0 else _; rw [if_pos rfl]
    | ⟨1, _⟩ =>
      show c.val = if N = 1 then 0 else c.val
      split
      · have := c.isLt; omega
      · rfl

/-- A product and a bias row of the kernel, read at an index. -/
theorem kernel_linear (x : FVec Ideal ⟨2, ![M, K]⟩ .f32) (W : FVec Ideal ⟨2, ![K, N]⟩ .f32) (b : FVec Ideal ⟨2, ![1, N]⟩ .f32)
    (h : (⟨2, ![1, N]⟩ : Shape).Broadcasts ⟨2, ![M, N]⟩) (r : Fin M) (c : Fin N)
    (y : Fin K → EReal) (W' : Mat N K) (b' : Arr N) (hx : ∀ k, x (ix2 r k) = y k) (hW : ∀ k c, W (ix2 k c) = W' (ix2 c k))
    (hb : ∀ c, b (ix2 0 c) = b' (ix1 c)) :
    addf (matmul (DotDims.plain M K N) none x W (constant (F := Ideal) ⟨2, ![M, N]⟩ .f32 0x00000000#32))
      (broadcastTo ⟨2, ![M, N]⟩ b h) (ix2 r c) = linear y W' b' c := by
  rw [addf_apply, rowBroadcast_apply, hb]
  refine congrArg (· + b' (ix1 c)) ?_
  refine (Ideal.matmul_plain_apply none x W _ r c).trans ?_
  rw [constant_apply, Ideal.ofBits_zero_f32, zero_add]
  exact Finset.sum_congr rfl fun k _ => by rw [hx, hW]

/-- A layer of the kernel, read at an index. -/
theorem kernel_dense (x : FVec Ideal ⟨2, ![M, K]⟩ .f32) (W : FVec Ideal ⟨2, ![K, N]⟩ .f32) (b : FVec Ideal ⟨2, ![1, N]⟩ .f32)
    (h : (⟨2, ![1, N]⟩ : Shape).Broadcasts ⟨2, ![M, N]⟩) (r : Fin M) (c : Fin N)
    (y : Fin K → EReal) (W' : Mat N K) (b' : Arr N) (hx : ∀ k, x (ix2 r k) = y k) (hW : ∀ k c, W (ix2 k c) = W' (ix2 c k))
    (hb : ∀ c, b (ix2 0 c) = b' (ix1 c)) :
    maximumf (addf (matmul (DotDims.plain M K N) none x W (constant (F := Ideal) ⟨2, ![M, N]⟩ .f32 0x00000000#32))
      (broadcastTo ⟨2, ![M, N]⟩ b h)) (broadcast ⟨2, ![M, N]⟩ (Scalar.ofBits .f32 0x00000000#32)) (ix2 r c)
      = dense y W' b' c := by
  rw [maximumf_apply, kernel_linear x W b h r c y W' b' hx hW hb, broadcast_apply]
  exact congrArg (max _) Ideal.ofBits_zero_f32

end Kernel

section Host
variable {M K N : Nat}

/-- A product with a transposed matrix and a bias of the reference, read at an index. -/
theorem host_linear (x : FVec Ideal ⟨2, ![M, K]⟩ .f32) (W : Mat N K) (b : Arr N)
    (ht : (⟨2, ![N, K]⟩ : Shape).Transposes [1, 0] ⟨2, ![K, N]⟩)
    (h1 : Shape.BroadcastsInDim ⟨1, ![N]⟩ ⟨2, ![1, N]⟩ (![1] : Fin 1 → Fin 2)) (h2 : Shape.BroadcastsInDim ⟨2, ![1, N]⟩ ⟨2, ![M, N]⟩ (![0, 1] : Fin 2 → Fin 2))
    (r : Fin M) (c : Fin N) (y : Fin K → EReal) (hx : ∀ k, x (ix2 r k) = y k) :
    addf (F := Ideal) (φ := .f32) (Host.dotGeneral (DotDims.plain M K N) none x (transpose ⟨2, ![K, N]⟩ [1, 0] W ht : FVec Ideal ⟨2, ![K, N]⟩ .f32))
      (broadcastInDim ⟨2, ![M, N]⟩ ![0, 1] h2 (broadcastInDim ⟨2, ![1, N]⟩ ![1] h1 b)) (ix2 r c) = linear y W b c := by
  rw [addf_apply]
  refine congrArg₂ (· + ·) ?_ ?_
  · refine (StackMember.dotGeneral_plain_apply none x _ r c).trans (Finset.sum_congr rfl fun k _ => ?_)
    rw [hx]
    exact congrArg (y k * ·) (transpose_apply [1, 0] W ht (ix2 k c) (ix2 c k) fun b => match b with
      | ⟨0, _⟩ => rfl
      | ⟨1, _⟩ => rfl)
  · refine (broadcastInDim_apply _ h2 _ (ix2 r c) (ix2 0 c) fun a => ?_).trans
      (broadcastInDim_apply _ h1 b (ix2 0 c) (ix1 c) fun a => ?_)
    · match a with
      | ⟨0, _⟩ => show (0 : Nat) = if (1 : Nat) = 1 then 0 else _; rw [if_pos rfl]
      | ⟨1, _⟩ =>
        show c.val = if N = 1 then 0 else c.val
        split
        · have := c.isLt; omega
        · rfl
    · match a with
      | ⟨0, _⟩ =>
        show c.val = if N = 1 then 0 else c.val
        split
        · have := c.isLt; omega
        · rfl

/-- A layer of the reference, read at an index. -/
theorem host_dense (x : FVec Ideal ⟨2, ![M, K]⟩ .f32) (W : Mat N K) (b : Arr N)
    (ht : (⟨2, ![N, K]⟩ : Shape).Transposes [1, 0] ⟨2, ![K, N]⟩)
    (h1 : Shape.BroadcastsInDim ⟨1, ![N]⟩ ⟨2, ![1, N]⟩ (![1] : Fin 1 → Fin 2)) (h2 : Shape.BroadcastsInDim ⟨2, ![1, N]⟩ ⟨2, ![M, N]⟩ (![0, 1] : Fin 2 → Fin 2))
    (h0 : Shape.BroadcastsInDim ⟨0, ![]⟩ ⟨2, ![M, N]⟩ (![] : Fin 0 → Fin 2))
    (r : Fin M) (c : Fin N) (y : Fin K → EReal) (hx : ∀ k, x (ix2 r k) = y k) :
    maximumf (F := Ideal) (φ := .f32) (addf (F := Ideal) (φ := .f32) (Host.dotGeneral (DotDims.plain M K N) none x (transpose ⟨2, ![K, N]⟩ [1, 0] W ht : FVec Ideal ⟨2, ![K, N]⟩ .f32))
      (broadcastInDim ⟨2, ![M, N]⟩ ![0, 1] h2 (broadcastInDim ⟨2, ![1, N]⟩ ![1] h1 b)))
      (broadcastInDim ⟨2, ![M, N]⟩ ![] h0 (constant (F := Ideal) ⟨0, ![]⟩ .f32 0x00000000#32)) (ix2 r c) = dense y W b c := by
  rw [maximumf_apply, host_linear x W b ht h1 h2 r c y hx]
  exact congrArg (max _) Ideal.ofBits_zero_f32

end Host

end Cert.Spec

end
-- ==== Proof.StageOneRun.lean ====
/- Stage 1 of the kernel as a running sum: what the output's block holds after each point of the grid is the sum of the
   partial results of the points of the same half of the grid so far, and the result array holds the two halves' sums. -/
module

public import proofs.«01_k».proof.Proof.KernelIdealRegion0
public import Idealize.ShloMosaic.Lib.Pipeline.Value

@[expose] public section

set_option maxRecDepth 16384

noncomputable section

namespace Cert.KernelIdeal.StageOne

open Cert.KernelIdeal.Gen Cert.KernelIdeal.Run
open Idealize.ShloMosaic Idealize.ShloMosaic.TcCoe

variable {F : FTy → Type} [FloatOps F]
variable (V : (c : Dev nD) → (b : Ref sig .tc) → Buf (Elt F) ((c : Thread nD τ).loc b))

/-- The zero offset of a rank 2 block. -/
theorem zero2 : (![0, 0] : Fin 2 → Nat) = fun _ => 0 := funext fun a => by fin_cases a <;> rfl

/-- The zero offset of a rank 3 block. -/
theorem zero3 : (![0, 0, 0] : Fin 3 → Nat) = fun _ => 0 := funext fun a => by fin_cases a <;> rfl

/-- The partial result of one point from the blocks it reads: the gated features of the block's rows, summed per segment. -/
def partialOf (x0 : Vec F S4096x32 .f32) (x1 : Vec F S1x1x4096 .i32) (x2 : Vec F S32x64 .f32) (x3 : Vec F S1x64 .f32)
    (x4 : Vec F S64x64 .f32) (x5 : Vec F S1x64 .f32) (x6 : Vec F S64x64 .f32) (x7 : Vec F S1x64 .f32)
    (x8 : Vec F S64x64 .f32) (x9 : Vec F S1x64 .f32) : FVec F S8x64 .f32 :=
  k0_pay1 (k0_pay4 x0 x2 x3 x4 x5 x6 x7) (k0_pay5 x0 x2 x3 x4 x5 x6 x7 x8) (k0_pay6 x9) x1

/-- The partial result of the point `t`. -/
def partialAt (c : Dev nD) (t : Fin cfg0.N) : FVec F S8x64 .f32 :=
  partialOf (iblk0 V c 0 t) (iblk0 V c 1 t) (iblk0 V c 2 t) (iblk0 V c 3 t) (iblk0 V c 4 t) (iblk0 V c 5 t)
    (iblk0 V c 6 t) (iblk0 V c 7 t) (iblk0 V c 8 t) (iblk0 V c 9 t)

/-- At the first point of a half the output's block is the point's partial result. -/
theorem outsAt_first (c : Dev nD) (t : Fin cfg0.N) (h0 : t.val % 128 = 0) :
    outsAt0 V c t.val t.isLt = shapeCast S1x8x64 (partialAt V c t) shapeCasts_S8x64_S1x8x64 := by
  rw [outsAt0_A V c t h0 (by omega)]
  unfold out0_A_10
  rw [View.read_writes_eq_canon _ _ _ (cover0_A_10 c _ _ _ _ _ _ _ _ _ _ _ _ _ _ _ _ _ _ _ _ _ _ _ _ _ _ _ _ _ _ _ _ _ _ _)]
  unfold kernelRun0_A
  dsimp only
  sl_unfold_words
  rw [View.canon_unit_zero (S := S1x8x64) zero3]
  unfold k0_pay2 partialAt partialOf
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread,
    (hs0_9 t).read_unread, View.ld_unit_zero (S := S4096x32) zero2, View.ld_unit_zero (S := S1x1x4096) zero3,
    View.ld_unit_zero (S := S32x64) zero2, View.ld_unit_zero (S := S1x64) zero2, View.ld_unit_zero (S := S64x64) zero2]

/-- At every other point the output's block is what the point before left plus the point's partial result. -/
theorem outsAt_next (c : Dev nD) (t : Fin cfg0.N) (h0 : ¬t.val % 128 = 0) :
    outsAt0 V c t.val t.isLt = addf (outsAt0 V c (t.val - 1) (Nat.lt_of_le_of_lt (Nat.sub_le _ _) t.isLt))
      (shapeCast S1x8x64 (partialAt V c t) shapeCasts_S8x64_S1x8x64) := by
  rw [outsAt0_B V c t h0 (by omega)]
  unfold out0_B_10
  rw [View.read_writes_eq_canon _ _ _ (cover0_B_10 c _ _ _ _ _ _ _ _ _ _ _ _ _ _ _ _ _ _ _ _ _ _ _ _ _ _ _ _ _ _ _ _ _ _ _ _)]
  unfold kernelRun0_B
  dsimp only
  sl_unfold_words
  rw [View.canon_unit_zero (S := S1x8x64) zero3]
  unfold k0_pay3 partialAt partialOf
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread,
    (hs0_9 t).read_unread, (hs0_10 t).read_unread, View.ld_unit_zero (S := S4096x32) zero2,
    View.ld_unit_zero (S := S1x1x4096) zero3, View.ld_unit_zero (S := S1x8x64) zero3,
    View.ld_unit_zero (S := S32x64) zero2, View.ld_unit_zero (S := S1x64) zero2, View.ld_unit_zero (S := S64x64) zero2,
    shapeCast_self]

end Cert.KernelIdeal.StageOne

end
-- ==== Proof.StageOneSum.lean ====
/- The result array of stage 1 at the extended reals: per half of the grid, the sum of the partial results of its points. -/
module

public import proofs.«01_k».proof.Proof.StageOneRun
public import Idealize.ShloMosaic.Lib.ValueIdx

@[expose] public section

set_option maxRecDepth 16384

noncomputable section

namespace Cert.KernelIdeal.StageOne

open Cert.KernelIdeal.Gen Cert.KernelIdeal.Run
open Idealize.ShloMosaic Idealize.ShloMosaic.TcCoe Idealize.ShloMosaic.ValueIdx
open Idealize.ShloMosaic.Pipeline

section Blocks
variable {F : FTy → Type} [FloatOps F]
variable (V : (c : Dev nD) → (b : Ref sig .tc) → Buf (Elt F) ((c : Thread nD τ).loc b))

theorem index_rows : ∀ t : Fin grid0.N, win0_0.index t 0 = t.val ∧ win0_0.index t 1 = 0 := by decide +kernel

theorem index_segs : ∀ t : Fin grid0.N, win0_1.index t 0 = t.val ∧ win0_1.index t 1 = 0 ∧ win0_1.index t 2 = 0 := by
  decide +kernel

theorem index_out : ∀ t : Fin grid0.N, win0_10.index t 0 = t.val / 128 ∧ win0_10.index t 1 = 0 ∧ win0_10.index t 2 = 0 := by
  decide +kernel

/-- The rows' block at point `t` is rows `4096 t` to `4096 t + 4095`. -/
theorem iblk_rows (c : Dev nD) (t : Fin cfg0.N) (r : Fin 4096) (k : Fin 32) (h : 4096 * t.val + r.val < 1048576) :
    (iblk0 V c 0 t : Vec F S4096x32 .f32) (ix2 r k) = V c main_arg0 (ix2 ⟨4096 * t.val + r.val, h⟩ k) := by
  unfold iblk0
  rw [View.read_apply]
  show V c main_arg0 _ = V c main_arg0 _
  congr 1
  funext a
  apply Fin.ext
  match a with
  | ⟨0, _⟩ => show win0_0.index t 0 * 4096 + 1 * r.val = _; rw [(index_rows t).1]; show _ = 4096 * t.val + r.val; omega
  | ⟨1, _⟩ => show win0_0.index t 1 * 32 + 1 * k.val = _; rw [(index_rows t).2]; show _ = k.val; omega

/-- The segment numbers' block at point `t` is row `t` of the reshaped segment numbers. -/
theorem iblk_segs (c : Dev nD) (t : Fin cfg0.N) (r : Fin 4096) :
    (iblk0 V c 1 t : Vec F S1x1x4096 .i32) (ix3 0 0 r) = V c main_v0 (ix3 (t.cast N_0) 0 r) := by
  unfold iblk0
  rw [View.read_apply]
  show V c main_v0 _ = V c main_v0 _
  congr 1
  funext a
  apply Fin.ext
  match a with
  | ⟨0, _⟩ => show win0_1.index t 0 * 1 + 1 * 0 = _; rw [(index_segs t).1]; show _ = t.val; omega
  | ⟨1, _⟩ => show win0_1.index t 1 * 1 + 1 * 0 = _; rw [(index_segs t).2.1]; rfl
  | ⟨2, _⟩ => show win0_1.index t 2 * 4096 + 1 * r.val = _; rw [(index_segs t).2.2]; show _ = r.val; omega

end Blocks

variable (V : (c : Dev nD) → (b : Ref sig .tc) → Buf (Elt Ideal) ((c : Thread nD τ).loc b))

/-- The partial result of the point with number `n`, as a function of the entries of the output's block. -/
def addend (c : Dev nD) (n : Nat) (i : S1x8x64.Idx) : EReal :=
  if h : n < cfg0.N then shapeCast S1x8x64 (partialAt V c ⟨n, h⟩) shapeCasts_S8x64_S1x8x64 i else 0

/-- After the last point of a half the output's block is the sum of the partial results of the half's points. -/
theorem outsAt_last (c : Dev nD) (t : Fin cfg0.N) (h : t.val % 128 = 127) (i : S1x8x64.Idx) :
    outsAt0 V c t.val t.isLt i = ∑ s ∈ Finset.range 128, addend V c (128 * (t.val / 128) + s) i := by
  have ht := t.isLt
  have e := eq_accAt_of_mod (outsAt0 V c) 128
    (fun n hn => shapeCast S1x8x64 (partialAt V c ⟨n, hn⟩) shapeCasts_S8x64_S1x8x64)
    (fun n hn acc => addf acc (shapeCast S1x8x64 (partialAt V c ⟨n, hn⟩) shapeCasts_S8x64_S1x8x64))
    (fun n hn h0 => outsAt_first V c ⟨n, hn⟩ h0)
    (fun n hn h0 => outsAt_next V c ⟨n + 1, hn⟩ h0) (by decide) t.val ht (by omega)
  rw [e, accAt_add_apply _ _ (fun _ => 0) (addend V c) (128 * (t.val / 128)) 127 (fun hb i => ?_) (fun n hn acc i _ _ => ?_)
    (t.val % 128) (by omega) _ i]
  · rw [h, zero_add]
  · rw [zero_add, addend, dif_pos hb]
  · rw [addend, dif_pos hn]; rfl

/-- The result array: entry `(h, g, k)` is the sum over the points of half `h` of entry `(g, k)` of the partial results. -/
def result (c : Dev nD) : Vec Ideal S2x8x64 .f32 := fun i =>
  ∑ s ∈ Finset.range 128, addend V c (128 * (i 0).val + s) (ix3 0 (i 1) (i 2))

/-- What a point at the end of a half writes back is its block of the result array. -/
theorem flushed_eq (c : Dev nD) (t : Fin cfg0.N) (hf : (cfg0.win 10).flush t = true) :
    (dat0 V c).flushed 10 t = ((cfg0.win 10).blk t).view.read (Elt Ideal) (result V c) := by
  have h := (flush0_10 t).mp hf
  obtain ⟨h0, h1, h2⟩ := index_out t
  show (cfg0.win 10).cut (grid0.coords t) ((dat0 V c).after 10 t) = _
  rw [after0_10]
  funext y
  rw [View.read_apply]
  show outsAt0 V c t.val t.isLt y = result V c _
  rw [outsAt_last V c t h]
  have hy : y = ix3 0 (y 1) (y 2) := by
    conv_lhs => rw [eq_ix3 y]
    congr 1
    exact Subsingleton.elim (α := Fin 1) _ _
  have e0 : (((cfg0.win 10).blk t).view.emb y 0).val = t.val / 128 := by
    show win0_10.index t 0 * 1 + 1 * (y 0).val = _
    have : (y 0).val < 1 := (y 0).isLt
    rw [h0]; omega
  have e1 : ((cfg0.win 10).blk t).view.emb y 1 = y 1 := by
    apply Fin.ext
    show win0_10.index t 1 * 8 + 1 * (y 1).val = _
    rw [h1]; omega
  have e2 : ((cfg0.win 10).blk t).view.emb y 2 = y 2 := by
    apply Fin.ext
    show win0_10.index t 2 * 64 + 1 * (y 2).val = _
    rw [h2]; omega
  unfold result
  rw [e0, e1, e2]
  exact Finset.sum_congr rfl fun s _ => congrArg (addend V c _) hy

/-- The result array of stage 1 after the run. -/
theorem final_out (c : Dev nD) : (dat0 V c).arrAt 10 cfg0.N = result V c :=
  (dat0 V c).arrAt_eq_of_cover 10 (result V c) (flushed_eq V c) fun (i : S2x8x64.Idx) => by
    have hN : cfg0.N = 256 := N_0
    have i0 : (i 0).val < 2 := (i 0).isLt
    obtain ⟨t, ht⟩ : ∃ t : Fin cfg0.N, t.val = 128 * (i 0).val + 127 := ⟨⟨128 * (i 0).val + 127, by omega⟩, rfl⟩
    refine ⟨t, (flush0_10 t).mpr (by omega), ?_⟩
    obtain ⟨h0, h1, h2⟩ := index_out t
    show i ∈ ((View.whole main_v9).slice (win0_10.rect t)).set
    rw [View.set_slice_whole, Rect.mem_set_unit]
    intro a
    match a with
    | ⟨0, _⟩ =>
      show win0_10.index t 0 * 1 ≤ (i 0).val ∧ (i 0).val < win0_10.index t 0 * 1 + 1
      rw [h0]; omega
    | ⟨1, _⟩ =>
      have := (i 1).isLt
      show win0_10.index t 1 * 8 ≤ (i 1).val ∧ (i 1).val < win0_10.index t 1 * 8 + 8
      rw [h1]; change (i 1).val < 8 at this; omega
    | ⟨2, _⟩ =>
      have := (i 2).isLt
      show win0_10.index t 2 * 64 ≤ (i 2).val ∧ (i 2).val < win0_10.index t 2 * 64 + 64
      rw [h2]; change (i 2).val < 64 at this; omega

end Cert.KernelIdeal.StageOne

end
-- ==== Proof.KernelRows.lean ====
/- The values of the kernel's two bodies that are layers of the perceptrons, read at an index. -/
module

public import proofs.«01_k».proof.Proof.Layers
public import proofs.«01_k».proof.Proof.StageOneSum

@[expose] public section

set_option maxRecDepth 16384

noncomputable section

namespace Cert.KernelIdeal.Rows

open Cert.KernelIdeal.Gen Cert.KernelIdeal.Run Cert.Spec
open Idealize.ShloMosaic Idealize.ShloMosaic.TcCoe Idealize.ShloMosaic.ValueIdx Idealize.ShloMosaic.Pipeline

/-- What a transposed weight and a bias row hold: the weight and the bias of a layer. -/
structure Holds {K N : Nat} (W : (⟨2, ![K, N]⟩ : Shape).Idx → EReal) (b : (⟨2, ![1, N]⟩ : Shape).Idx → EReal)
    (W' : Mat N K) (b' : Arr N) : Prop where
  weight : ∀ k c, W (ix2 k c) = W' (ix2 c k)
  bias : ∀ c, b (ix2 0 c) = b' (ix1 c)

/-- The three layers of the row perceptron. -/
theorem pay4_apply (x0 : Vec Ideal S4096x32 .f32) (x1 : Vec Ideal S32x64 .f32) (x2 : Vec Ideal S1x64 .f32)
    (x3 : Vec Ideal S64x64 .f32) (x4 : Vec Ideal S1x64 .f32) (x5 : Vec Ideal S64x64 .f32) (x6 : Vec Ideal S1x64 .f32)
    (w1 : Mat 64 32) (b1 : Arr 64) (w2 : Mat 64 64) (b2 : Arr 64) (w3 : Mat 64 64) (b3 : Arr 64)
    (h1 : Holds x1 x2 w1 b1) (h2 : Holds x3 x4 w2 b2) (h3 : Holds x5 x6 w3 b3) (r : Fin 4096) (c : Fin 64)
    (y : Fin 32 → EReal) (hx : ∀ k, x0 (ix2 r k) = y k) :
    k0_pay4 x0 x1 x2 x3 x4 x5 x6 (ix2 r c) = mlp y w1 b1 w2 b2 w3 b3 c := by
  unfold k0_pay4
  simp only [shapeCast_self]
  exact kernel_dense _ _ _ broadcasts_S1x64_S4096x64 r c _ w3 b3
    (fun k => kernel_dense _ _ _ broadcasts_S1x64_S4096x64 r k _ w2 b2
      (fun k => kernel_dense _ _ _ broadcasts_S1x64_S4096x64 r k _ w1 b1 hx h1.weight h1.bias) h2.weight h2.bias) h3.weight h3.bias

/-- A comparison's bit as a number. -/
theorem bit_apply (w v : BitVec 32) :
    (FloatOps.sitofp (F := Ideal) .f32 ((IntOp.cmpi .eq w v).setWidth 32) : EReal) = if w = v then 1 else 0 := by
  show ((((BitVec.ofBool (w == v)).setWidth 32).toInt : ℝ) : EReal) = _
  by_cases h : w = v
  · simp [h]
  · rw [show (w == v) = false from beq_false_of_ne h, if_neg h]
    simp

/-- The one-hot matrix of stage 1: entry `(g, r)` compares the segment number of row `r` with `g`. -/
theorem onehot0_apply (x1 : Vec Ideal S1x1x4096 .i32) (g : Fin 8) (r : Fin 4096) :
    (sitofp .f32 (extui 32 (cmpi .eq (broadcastTo S8x4096 (shapeCast S1x4096 x1 shapeCasts_S1x1x4096_S1x4096) broadcasts_S1x4096_S8x4096)
      (iota .tc S8x4096 32 [0] iota_S8x4096_d0_w32)) natLt_1_32) : FVec Ideal S8x4096 .f32) (ix2 g r)
      = hot (x1 (ix3 0 0 r)) g := by
  rw [sitofp_apply, extui_apply]
  show FloatOps.sitofp (F := Ideal) .f32 ((IntOp.cmpi .eq (broadcastTo S8x4096 _ broadcasts_S1x4096_S8x4096 (ix2 g r))
    (iota .tc S8x4096 32 [0] iota_S8x4096_d0_w32 (ix2 g r))).setWidth 32) = _
  rw [bit_apply, iota_single_apply, rowBroadcast_apply, shapeCast_dropUnit_apply]
  have e : (Fin.cons (⟨0, Nat.one_pos⟩ : Fin 1) (ix2 (0 : Fin 1) r) : S1x1x4096.Idx) = ix3 0 0 r := by
    funext a
    match a with
    | ⟨0, _⟩ => rfl
    | ⟨1, _⟩ => rfl
    | ⟨2, _⟩ => rfl
  exact congrArg (fun i => if x1 i = BitVec.ofNat 32 g.val then (1 : EReal) else 0) e

/-- The partial result of a block of rows: at `(g, c)` the sum of the gated rows whose segment number is `g`. -/
theorem partialOf_apply (x0 : Vec Ideal S4096x32 .f32) (x1 : Vec Ideal S1x1x4096 .i32) (x2 : Vec Ideal S32x64 .f32)
    (x3 : Vec Ideal S1x64 .f32) (x4 : Vec Ideal S64x64 .f32) (x5 : Vec Ideal S1x64 .f32) (x6 : Vec Ideal S64x64 .f32)
    (x7 : Vec Ideal S1x64 .f32) (x8 : Vec Ideal S64x64 .f32) (x9 : Vec Ideal S1x64 .f32)
    (w1 : Mat 64 32) (b1 : Arr 64) (w2 : Mat 64 64) (b2 : Arr 64) (w3 : Mat 64 64) (b3 : Arr 64) (aw : Mat 64 64) (ab : Arr 64)
    (h1 : Holds x2 x3 w1 b1) (h2 : Holds x4 x5 w2 b2) (h3 : Holds x6 x7 w3 b3) (ha : Holds x8 x9 aw ab)
    (g : Fin 8) (c : Fin 64) (y : Fin 4096 → Fin 32 → EReal) (hx : ∀ r k, x0 (ix2 r k) = y r k) :
    StageOne.partialOf x0 x1 x2 x3 x4 x5 x6 x7 x8 x9 (ix2 g c)
      = ∑ r : Fin 4096, hot (x1 (ix3 0 0 r)) g * gated (mlp (y r) w1 b1 w2 b2 w3 b3) aw ab c := by
  unfold StageOne.partialOf k0_pay1 k0_pay5 k0_pay6
  simp only [shapeCast_self]
  refine (Ideal.matmul_plain_apply none _ _ _ g c).trans ?_
  rw [constant_apply, Ideal.ofBits_zero_f32, zero_add]
  refine Finset.sum_congr rfl fun r _ => ?_
  rw [onehot0_apply, mulf_apply, pay4_apply x0 x2 x3 x4 x5 x6 x7 w1 b1 w2 b2 w3 b3 h1 h2 h3 r c (y r) (hx r)]
  refine congrArg (fun z => hot _ g * (Ideal.logistic z * _)) ?_
  exact kernel_linear _ _ _ broadcasts_S1x64_S4096x64 r c _ aw ab
    (fun k => pay4_apply x0 x2 x3 x4 x5 x6 x7 w1 b1 w2 b2 w3 b3 h1 h2 h3 r k (y r) (hx r)) ha.weight ha.bias

end Cert.KernelIdeal.Rows

end
-- ==== Proof.HostReads.lean ====
/- What the kernel's host code prepares for its two regions, read at an index: transposed weights, bias rows, and the
   factors, the factors' segment numbers and the last layer repeated along an axis. -/
module

public import proofs.«01_k».proof.Proof.KernelRows
public import proofs.«01_k».proof.Proof.KernelIdealRun
public import Idealize.ShloMosaic.Lib.ValueLayout
public import Idealize.ShloMosaic.Lib.ValueLayoutCasts

@[expose] public section

set_option maxRecDepth 16384

noncomputable section

namespace Cert.KernelIdeal.HostReads

open Cert.KernelIdeal.Gen Cert.KernelIdeal.Run Cert.KernelIdeal.Rows Cert.Spec
open Idealize.ShloMosaic Idealize.ShloMosaic.TcCoe Idealize.ShloMosaic.ValueIdx Idealize.ShloMosaic.Pipeline
open Idealize.ShloMosaic.StableHlo

section Layout
variable {α : Type} {M N : Nat}

/-- A transposed matrix read at an index. -/
theorem transposed_apply (W : (⟨2, ![N, M]⟩ : Shape).Idx → α) (h : (⟨2, ![N, M]⟩ : Shape).Transposes [1, 0] ⟨2, ![M, N]⟩)
    (k : Fin M) (c : Fin N) : transpose ⟨2, ![M, N]⟩ [1, 0] W h (ix2 k c) = W (ix2 c k) :=
  transpose_apply [1, 0] W h (ix2 k c) (ix2 c k) fun b => match b with
    | ⟨0, _⟩ => rfl
    | ⟨1, _⟩ => rfl

/-- A column read as a row. -/
theorem column_as_row_apply (x : (⟨2, ![N, 1]⟩ : Shape).Idx → α) (h : (⟨2, ![N, 1]⟩ : Shape).ShapeCasts ⟨2, ![1, N]⟩) (c : Fin N) :
    shapeCast ⟨2, ![1, N]⟩ x h (ix2 0 c) = x (ix2 c 0) :=
  shapeCast_apply x h _ _ (by
    rw [Shape.rowMajor_val_two, Shape.rowMajor_val_two]
    show c.val * 1 + 0 = 0 * N + c.val
    omega)

/-- A column repeated along a second axis, as the host code builds it: entry `(r, c)` is entry `r` of the column. -/
theorem tiled_apply (x : (⟨2, ![M, 1]⟩ : Shape).Idx → α) (h1 : (⟨2, ![M, 1]⟩ : Shape).ShapeCasts ⟨4, ![1, M, 1, 1]⟩)
    (h2 : Shape.BroadcastsInDim ⟨4, ![1, M, 1, 1]⟩ ⟨4, ![1, M, N, 1]⟩ (![0, 1, 2, 3] : Fin 4 → Fin 4))
    (h3 : (⟨4, ![1, M, N, 1]⟩ : Shape).ShapeCasts ⟨2, ![M, N]⟩) (r : Fin M) (c : Fin N) :
    shapeCast ⟨2, ![M, N]⟩ (broadcastInDim ⟨4, ![1, M, N, 1]⟩ ![0, 1, 2, 3] h2 (shapeCast ⟨4, ![1, M, 1, 1]⟩ x h1)) h3 (ix2 r c)
      = x (ix2 r 0) := by
  refine (shapeCast_apply _ h3 (ix2 r c) (ix4 0 r c 0) ?_).trans
    ((broadcastInDim_apply _ h2 _ (ix4 0 r c 0) (ix4 0 r 0 0) fun a => ?_).trans (shapeCast_apply x h1 (ix4 0 r 0 0) (ix2 r 0) ?_))
  · rw [Shape.rowMajor_val_two, Shape.rowMajor_val_four]
    show ((0 * M + r.val) * N + c.val) * 1 + 0 = r.val * N + c.val
    rw [Nat.zero_mul, Nat.zero_add, Nat.mul_one, Nat.add_zero]
  · match a with
    | ⟨0, _⟩ => show (0 : Nat) = if (1 : Nat) = 1 then 0 else _; rw [if_pos rfl]
    | ⟨1, _⟩ =>
      show r.val = if M = 1 then 0 else r.val
      split
      · have := r.isLt; omega
      · rfl
    | ⟨2, _⟩ => show (0 : Nat) = if (1 : Nat) = 1 then 0 else _; rw [if_pos rfl]
    | ⟨3, _⟩ => show (0 : Nat) = if (1 : Nat) = 1 then 0 else _; rw [if_pos rfl]
  · rw [Shape.rowMajor_val_two, Shape.rowMajor_val_four]
    show r.val * 1 + 0 = ((0 * M + r.val) * 1 + 0) * 1 + 0
    omega

end Layout

variable (V0 : Valuation τ sig (Elt Ideal))

/-- The segment numbers in blocks of 4096. -/
theorem segs_apply (t : Fin 256) (r : Fin 4096) (h : 4096 * t.val + r.val < 1048576) :
    (after hostOps0 V0 main_v0 : Vec Ideal S256x1x4096 .i32) (ix3 t 0 r)
      = (V0 main_arg2 : Vec Ideal S1048576 .i32) (ix1 ⟨4096 * t.val + r.val, h⟩) := by
  after_results_simp
  exact shapeCast_apply _ shapeCasts_S1048576_S256x1x4096 _ _ (by
    rw [Shape.rowMajor_val_one, Shape.rowMajor_val_three]
    show 4096 * t.val + r.val = (t.val * 1 + 0) * 4096 + r.val
    omega)

/-- The first layer of the row perceptron. -/
theorem holds_rows1 : Holds (after hostOps0 V0 main_v1 : Vec Ideal S32x64 .f32) (after hostOps0 V0 main_v2 : Vec Ideal S1x64 .f32)
    (V0 main_arg4 : Vec Ideal S64x32 .f32) (V0 main_arg5 : Vec Ideal S64 .f32) where
  weight k c := by
    after_results_simp
    exact transposed_apply _ transposes_S64x32_S32x64_1_0 k c
  bias c := by
    after_results_simp
    exact shapeCast_a_1a_apply _ shapeCasts_S64_S1x64 0 c

/-- The second layer of the row perceptron. -/
theorem holds_rows2 : Holds (after hostOps0 V0 main_v3 : Vec Ideal S64x64 .f32) (after hostOps0 V0 main_v4 : Vec Ideal S1x64 .f32)
    (V0 main_arg6 : Vec Ideal S64x64 .f32) (V0 main_arg7 : Vec Ideal S64 .f32) where
  weight k c := by
    after_results_simp
    exact transposed_apply _ transposes_S64x64_S64x64_1_0 k c
  bias c := by
    after_results_simp
    exact shapeCast_a_1a_apply _ shapeCasts_S64_S1x64 0 c

/-- The third layer of the row perceptron. -/
theorem holds_rows3 : Holds (after hostOps0 V0 main_v5 : Vec Ideal S64x64 .f32) (after hostOps0 V0 main_v6 : Vec Ideal S1x64 .f32)
    (V0 main_arg8 : Vec Ideal S64x64 .f32) (V0 main_arg9 : Vec Ideal S64 .f32) where
  weight k c := by
    after_results_simp
    exact transposed_apply _ transposes_S64x64_S64x64_1_0 k c
  bias c := by
    after_results_simp
    exact shapeCast_a_1a_apply _ shapeCasts_S64_S1x64 0 c

/-- The attention layer. -/
theorem holds_gate : Holds (after hostOps0 V0 main_v7 : Vec Ideal S64x64 .f32) (after hostOps0 V0 main_v8 : Vec Ideal S1x64 .f32)
    (V0 main_arg10 : Vec Ideal S64x64 .f32) (V0 main_arg11 : Vec Ideal S64 .f32) where
  weight k c := by
    after_results_simp
    exact transposed_apply _ transposes_S64x64_S64x64_1_0 k c
  bias c := by
    after_results_simp
    exact shapeCast_a_1a_apply _ shapeCasts_S64_S1x64 0 c

/-- The factors, each repeated along a row. -/
theorem factors_apply (f : Fin 128) (c : Fin 64) :
    (after hostOps1 V0 main_v12 : Vec Ideal S128x64 .f32) (ix2 f c) = (V0 main_arg1 : Vec Ideal S128x1 .f32) (ix2 f 0) := by
  after_results_simp
  exact tiled_apply _ shapeCasts_S128x1_S1x128x1x1 bcast_S1x128x1x1_S1x128x64x1_0_1_2_3 shapeCasts_S1x128x64x1_S128x64 f c

/-- The factors' segment numbers, each repeated along a row. -/
theorem fsegs_apply (f : Fin 128) (g : Fin 8) :
    (after hostOps1 V0 main_v16 : Vec Ideal S128x8 .i32) (ix2 f g) = (V0 main_arg3 : Vec Ideal S128 .i32) (ix1 f) := by
  after_results_simp
  exact (tiled_apply _ shapeCasts_S128x1_S1x128x1x1 bcast_S1x128x1x1_S1x128x8x1_0_1_2_3 shapeCasts_S1x128x8x1_S128x8 f g).trans
    (shapeCast_a_a1_apply _ shapeCasts_S128_S128x1 f 0)

/-- The first layer of the factor perceptron, whose matrix is one column. -/
theorem factor_weight_apply (c : Fin 64) :
    (after hostOps1 V0 main_v17 : Vec Ideal S1x64 .f32) (ix2 0 c) = (V0 main_arg12 : Vec Ideal S64x1 .f32) (ix2 c 0) := by
  after_results_simp
  exact column_as_row_apply _ shapeCasts_S64x1_S1x64 c

/-- The bias of the first layer of the factor perceptron. -/
theorem factor_bias_apply (c : Fin 64) :
    (after hostOps1 V0 main_v18 : Vec Ideal S1x64 .f32) (ix2 0 c) = (V0 main_arg13 : Vec Ideal S64 .f32) (ix1 c) := by
  after_results_simp
  exact shapeCast_a_1a_apply _ shapeCasts_S64_S1x64 0 c

/-- The second layer of the factor perceptron. -/
theorem holds_factors2 : Holds (after hostOps1 V0 main_v19 : Vec Ideal S64x64 .f32) (after hostOps1 V0 main_v20 : Vec Ideal S1x64 .f32)
    (V0 main_arg14 : Vec Ideal S64x64 .f32) (V0 main_arg15 : Vec Ideal S64 .f32) where
  weight k c := by
    after_results_simp
    exact transposed_apply _ transposes_S64x64_S64x64_1_0 k c
  bias c := by
    after_results_simp
    exact shapeCast_a_1a_apply _ shapeCasts_S64_S1x64 0 c

/-- The third layer of the factor perceptron. -/
theorem holds_factors3 : Holds (after hostOps1 V0 main_v21 : Vec Ideal S64x64 .f32) (after hostOps1 V0 main_v22 : Vec Ideal S1x64 .f32)
    (V0 main_arg16 : Vec Ideal S64x64 .f32) (V0 main_arg17 : Vec Ideal S64 .f32) where
  weight k c := by
    after_results_simp
    exact transposed_apply _ transposes_S64x64_S64x64_1_0 k c
  bias c := by
    after_results_simp
    exact shapeCast_a_1a_apply _ shapeCasts_S64_S1x64 0 c

/-- The first layer of the scoring perceptron. -/
theorem holds_score1 : Holds (after hostOps1 V0 main_v23 : Vec Ideal S128x64 .f32) (after hostOps1 V0 main_v24 : Vec Ideal S1x64 .f32)
    (V0 main_arg18 : Vec Ideal S64x128 .f32) (V0 main_arg19 : Vec Ideal S64 .f32) where
  weight k c := by
    after_results_simp
    exact transposed_apply _ transposes_S64x128_S128x64_1_0 k c
  bias c := by
    after_results_simp
    exact shapeCast_a_1a_apply _ shapeCasts_S64_S1x64 0 c

/-- The second layer of the scoring perceptron. -/
theorem holds_score2 : Holds (after hostOps1 V0 main_v25 : Vec Ideal S64x64 .f32) (after hostOps1 V0 main_v26 : Vec Ideal S1x64 .f32)
    (V0 main_arg20 : Vec Ideal S64x64 .f32) (V0 main_arg21 : Vec Ideal S64 .f32) where
  weight k c := by
    after_results_simp
    exact transposed_apply _ transposes_S64x64_S64x64_1_0 k c
  bias c := by
    after_results_simp
    exact shapeCast_a_1a_apply _ shapeCasts_S64_S1x64 0 c

/-- The last layer of the scoring perceptron, repeated over the eight groups. -/
theorem score_weight_apply (k : Fin 64) (g : Fin 8) :
    (after hostOps1 V0 main_v30 : Vec Ideal S64x8 .f32) (ix2 k g) = (V0 main_arg22 : Vec Ideal S1x64 .f32) (ix2 0 k) := by
  after_results_simp
  exact (tiled_apply _ shapeCasts_S64x1_S1x64x1x1 bcast_S1x64x1x1_S1x64x8x1_0_1_2_3 shapeCasts_S1x64x8x1_S64x8 k g).trans
    (transposed_apply _ transposes_S1x64_S64x1_1_0 k 0)

/-- The bias of the last layer of the scoring perceptron, repeated over the eight groups. -/
theorem score_bias_apply (g : Fin 8) :
    (after hostOps1 V0 main_v34 : Vec Ideal S1x8 .f32) (ix2 0 g) = (V0 main_arg23 : Vec Ideal S1 .f32) (ix1 0) := by
  after_results_simp
  exact (tiled_apply _ shapeCasts_S1x1_S1x1x1x1 bcast_S1x1x1x1_S1x1x8x1_0_1_2_3 shapeCasts_S1x1x8x1_S1x8 0 g).trans
    (shapeCast_a_a1_apply _ shapeCasts_S1_S1x1 0 0)

/-- The first result is the one entry of stage 2's first array. -/
theorem result0_apply (i : S_.Idx) :
    (after hostOps2 V0 main_v36 : Vec Ideal S_ .f32) i = (V0 main_v35_0 : Vec Ideal S1x1 .f32) (ix2 0 0) := by
  after_results_simp
  exact shapeCast_apply _ shapeCasts_S1x1_S_ _ _ (by
    have h1 : (S1x1.rowMajor (ix2 0 0)).val < 1 := (S1x1.rowMajor (ix2 0 0)).isLt
    have h2 : (S_.rowMajor i).val < 1 := (S_.rowMajor i).isLt
    omega)

/-- The second result is the row of stage 2's second array. -/
theorem result1_apply (g : Fin 8) :
    (after hostOps2 V0 main_v37 : Vec Ideal S8 .f32) (ix1 g) = (V0 main_v35_1 : Vec Ideal S1x8 .f32) (ix2 0 g) := by
  after_results_simp
  exact shapeCast_1a_a_apply _ shapeCasts_S1x8_S8 g

end Cert.KernelIdeal.HostReads

end
-- ==== Proof.WholeBlocks.lean ====
/- The windows whose one block is the whole array: what the body reads is the array. -/
module

public import proofs.«01_k».proof.Proof.KernelIdealRegion0
public import proofs.«01_k».proof.Proof.KernelIdealRegion1
public import Idealize.ShloMosaic.Lib.Pipeline.Value

@[expose] public section

set_option maxRecDepth 16384

noncomputable section

namespace Cert.KernelIdeal.WholeBlocks

open Cert.KernelIdeal.Gen Cert.KernelIdeal.Run
open Idealize.ShloMosaic Idealize.ShloMosaic.TcCoe Idealize.ShloMosaic.Pipeline

/-- At block index zero on every axis, an element of the block is the array's element at the same coordinates. -/
theorem read_whole {α : Type} {G : Grid} (w : Window sig G) (t : Fin G.N) (h : ∀ a, w.index t a = 0) (f : w.shape.Idx → α)
    (y : (w.xblock (G.coords t)).Idx) (j : w.shape.Idx) (hj : ∀ a, (y a).val = (j a).val) : f ((w.rect t).emb y) = f j :=
  congrArg f (funext fun a => Fin.ext ((w.rect_emb_val_of_index_zero t a (h a) y).trans (hj a)))

variable {F : FTy → Type} [FloatOps F]
variable (V : (c : Dev nD) → (b : Ref sig .tc) → Buf (Elt F) ((c : Thread nD τ).loc b)) (c : Dev nD)

/-- Window 2 of stage 1 reads the whole array. -/
theorem iblk0_2 (t : Fin cfg0.N) : (iblk0 V c 2 t : Vec F S32x64 .f32) = V c main_v1 :=
  funext fun i => read_whole win0_2 t (fun a => match a with | ⟨0, _⟩ => rfl | ⟨1, _⟩ => rfl) (V c main_v1) i i fun _ => rfl

/-- Window 3 of stage 1 reads the whole array. -/
theorem iblk0_3 (t : Fin cfg0.N) : (iblk0 V c 3 t : Vec F S1x64 .f32) = V c main_v2 :=
  funext fun i => read_whole win0_3 t (fun a => match a with | ⟨0, _⟩ => rfl | ⟨1, _⟩ => rfl) (V c main_v2) i i fun _ => rfl

/-- Window 4 of stage 1 reads the whole array. -/
theorem iblk0_4 (t : Fin cfg0.N) : (iblk0 V c 4 t : Vec F S64x64 .f32) = V c main_v3 :=
  funext fun i => read_whole win0_4 t (fun a => match a with | ⟨0, _⟩ => rfl | ⟨1, _⟩ => rfl) (V c main_v3) i i fun _ => rfl

/-- Window 5 of stage 1 reads the whole array. -/
theorem iblk0_5 (t : Fin cfg0.N) : (iblk0 V c 5 t : Vec F S1x64 .f32) = V c main_v4 :=
  funext fun i => read_whole win0_5 t (fun a => match a with | ⟨0, _⟩ => rfl | ⟨1, _⟩ => rfl) (V c main_v4) i i fun _ => rfl

/-- Window 6 of stage 1 reads the whole array. -/
theorem iblk0_6 (t : Fin cfg0.N) : (iblk0 V c 6 t : Vec F S64x64 .f32) = V c main_v5 :=
  funext fun i => read_whole win0_6 t (fun a => match a with | ⟨0, _⟩ => rfl | ⟨1, _⟩ => rfl) (V c main_v5) i i fun _ => rfl

/-- Window 7 of stage 1 reads the whole array. -/
theorem iblk0_7 (t : Fin cfg0.N) : (iblk0 V c 7 t : Vec F S1x64 .f32) = V c main_v6 :=
  funext fun i => read_whole win0_7 t (fun a => match a with | ⟨0, _⟩ => rfl | ⟨1, _⟩ => rfl) (V c main_v6) i i fun _ => rfl

/-- Window 8 of stage 1 reads the whole array. -/
theorem iblk0_8 (t : Fin cfg0.N) : (iblk0 V c 8 t : Vec F S64x64 .f32) = V c main_v7 :=
  funext fun i => read_whole win0_8 t (fun a => match a with | ⟨0, _⟩ => rfl | ⟨1, _⟩ => rfl) (V c main_v7) i i fun _ => rfl

/-- Window 9 of stage 1 reads the whole array. -/
theorem iblk0_9 (t : Fin cfg0.N) : (iblk0 V c 9 t : Vec F S1x64 .f32) = V c main_v8 :=
  funext fun i => read_whole win0_9 t (fun a => match a with | ⟨0, _⟩ => rfl | ⟨1, _⟩ => rfl) (V c main_v8) i i fun _ => rfl

/-- Window 0 of stage 2 reads the whole array. -/
theorem iblk1_0 (t : Fin cfg1.N) : (iblk1 V c 0 t : Vec F S2x8x64 .f32) = V c main_v9 :=
  funext fun i => read_whole win1_0 t (fun a => match a with | ⟨0, _⟩ => rfl | ⟨1, _⟩ => rfl | ⟨2, _⟩ => rfl) (V c main_v9) i i fun _ => rfl

/-- Window 1 of stage 2 reads the whole array. -/
theorem iblk1_1 (t : Fin cfg1.N) : (iblk1 V c 1 t : Vec F S128x64 .f32) = V c main_v12 :=
  funext fun i => read_whole win1_1 t (fun a => match a with | ⟨0, _⟩ => rfl | ⟨1, _⟩ => rfl) (V c main_v12) i i fun _ => rfl

/-- Window 2 of stage 2 reads the whole array. -/
theorem iblk1_2 (t : Fin cfg1.N) : (iblk1 V c 2 t : Vec F S128x8 .i32) = V c main_v16 :=
  funext fun i => read_whole win1_2 t (fun a => match a with | ⟨0, _⟩ => rfl | ⟨1, _⟩ => rfl) (V c main_v16) i i fun _ => rfl

/-- Window 3 of stage 2 reads the whole array. -/
theorem iblk1_3 (t : Fin cfg1.N) : (iblk1 V c 3 t : Vec F S1x64 .f32) = V c main_v17 :=
  funext fun i => read_whole win1_3 t (fun a => match a with | ⟨0, _⟩ => rfl | ⟨1, _⟩ => rfl) (V c main_v17) i i fun _ => rfl

/-- Window 4 of stage 2 reads the whole array. -/
theorem iblk1_4 (t : Fin cfg1.N) : (iblk1 V c 4 t : Vec F S1x64 .f32) = V c main_v18 :=
  funext fun i => read_whole win1_4 t (fun a => match a with | ⟨0, _⟩ => rfl | ⟨1, _⟩ => rfl) (V c main_v18) i i fun _ => rfl

/-- Window 5 of stage 2 reads the whole array. -/
theorem iblk1_5 (t : Fin cfg1.N) : (iblk1 V c 5 t : Vec F S64x64 .f32) = V c main_v19 :=
  funext fun i => read_whole win1_5 t (fun a => match a with | ⟨0, _⟩ => rfl | ⟨1, _⟩ => rfl) (V c main_v19) i i fun _ => rfl

/-- Window 6 of stage 2 reads the whole array. -/
theorem iblk1_6 (t : Fin cfg1.N) : (iblk1 V c 6 t : Vec F S1x64 .f32) = V c main_v20 :=
  funext fun i => read_whole win1_6 t (fun a => match a with | ⟨0, _⟩ => rfl | ⟨1, _⟩ => rfl) (V c main_v20) i i fun _ => rfl

/-- Window 7 of stage 2 reads the whole array. -/
theorem iblk1_7 (t : Fin cfg1.N) : (iblk1 V c 7 t : Vec F S64x64 .f32) = V c main_v21 :=
  funext fun i => read_whole win1_7 t (fun a => match a with | ⟨0, _⟩ => rfl | ⟨1, _⟩ => rfl) (V c main_v21) i i fun _ => rfl

/-- Window 8 of stage 2 reads the whole array. -/
theorem iblk1_8 (t : Fin cfg1.N) : (iblk1 V c 8 t : Vec F S1x64 .f32) = V c main_v22 :=
  funext fun i => read_whole win1_8 t (fun a => match a with | ⟨0, _⟩ => rfl | ⟨1, _⟩ => rfl) (V c main_v22) i i fun _ => rfl

/-- Window 9 of stage 2 reads the whole array. -/
theorem iblk1_9 (t : Fin cfg1.N) : (iblk1 V c 9 t : Vec F S128x64 .f32) = V c main_v23 :=
  funext fun i => read_whole win1_9 t (fun a => match a with | ⟨0, _⟩ => rfl | ⟨1, _⟩ => rfl) (V c main_v23) i i fun _ => rfl

/-- Window 10 of stage 2 reads the whole array. -/
theorem iblk1_10 (t : Fin cfg1.N) : (iblk1 V c 10 t : Vec F S1x64 .f32) = V c main_v24 :=
  funext fun i => read_whole win1_10 t (fun a => match a with | ⟨0, _⟩ => rfl | ⟨1, _⟩ => rfl) (V c main_v24) i i fun _ => rfl

/-- Window 11 of stage 2 reads the whole array. -/
theorem iblk1_11 (t : Fin cfg1.N) : (iblk1 V c 11 t : Vec F S64x64 .f32) = V c main_v25 :=
  funext fun i => read_whole win1_11 t (fun a => match a with | ⟨0, _⟩ => rfl | ⟨1, _⟩ => rfl) (V c main_v25) i i fun _ => rfl

/-- Window 12 of stage 2 reads the whole array. -/
theorem iblk1_12 (t : Fin cfg1.N) : (iblk1 V c 12 t : Vec F S1x64 .f32) = V c main_v26 :=
  funext fun i => read_whole win1_12 t (fun a => match a with | ⟨0, _⟩ => rfl | ⟨1, _⟩ => rfl) (V c main_v26) i i fun _ => rfl

/-- Window 13 of stage 2 reads the whole array. -/
theorem iblk1_13 (t : Fin cfg1.N) : (iblk1 V c 13 t : Vec F S64x8 .f32) = V c main_v30 :=
  funext fun i => read_whole win1_13 t (fun a => match a with | ⟨0, _⟩ => rfl | ⟨1, _⟩ => rfl) (V c main_v30) i i fun _ => rfl

/-- Window 14 of stage 2 reads the whole array. -/
theorem iblk1_14 (t : Fin cfg1.N) : (iblk1 V c 14 t : Vec F S1x8 .f32) = V c main_v34 :=
  funext fun i => read_whole win1_14 t (fun a => match a with | ⟨0, _⟩ => rfl | ⟨1, _⟩ => rfl) (V c main_v34) i i fun _ => rfl

end Cert.KernelIdeal.WholeBlocks

end
-- ==== Proof.KernelPooled.lean ====
/- Stage 1's result array holds, in its two halves, two sums that together are the pooled features. -/
module

public import proofs.«01_k».proof.Proof.HostReads
public import proofs.«01_k».proof.Proof.WholeBlocks

@[expose] public section

set_option maxRecDepth 16384

noncomputable section

namespace Cert.KernelIdeal.KernelPooled

open Cert.KernelIdeal.Gen Cert.KernelIdeal.Run Cert.KernelIdeal.Rows Cert.KernelIdeal.HostReads Cert.KernelIdeal.WholeBlocks
open Cert.KernelIdeal.StageOne Cert.Spec
open Idealize.ShloMosaic Idealize.ShloMosaic.TcCoe Idealize.ShloMosaic.ValueIdx Idealize.ShloMosaic.Pipeline

/-- A sum over blocks of equal length is the sum over all. -/
theorem sum_blocks (T : ℕ → EReal) (b a : ℕ) :
    ∑ i ∈ Finset.range a, ∑ j ∈ Finset.range b, T (b * i + j) = ∑ n ∈ Finset.range (b * a), T n := by
  induction a with
  | zero => simp
  | succ a ih => rw [Finset.sum_range_succ, ih, Nat.mul_succ, Finset.sum_range_add]

variable (m : (ℓ : Loc nD τ sig) → Buf (Elt Ideal) ℓ) (ρ : Dev nD → PrngReg) (c : Dev nD)

/-- The gated row `n`, where its segment number is `g`. -/
def term (g : Fin 8) (k : Fin 64) (n : ℕ) : EReal :=
  if h : n < 1048576 then
    hot ((m ((c : Thread nD τ).loc main_arg2) : Vec Ideal S1048576 .i32) (ix1 ⟨n, h⟩)) g
      * gated (mlp (fun j => (m ((c : Thread nD τ).loc main_arg0) : Vec Ideal S1048576x32 .f32) (ix2 ⟨n, h⟩ j))
          (m ((c : Thread nD τ).loc main_arg4)) (m ((c : Thread nD τ).loc main_arg5)) (m ((c : Thread nD τ).loc main_arg6))
          (m ((c : Thread nD τ).loc main_arg7)) (m ((c : Thread nD τ).loc main_arg8)) (m ((c : Thread nD τ).loc main_arg9)))
        (m ((c : Thread nD τ).loc main_arg10)) (m ((c : Thread nD τ).loc main_arg11)) k
  else 0

/-- A point's partial result is the sum of its 4096 rows' terms. -/
theorem partialAt_apply (t : Fin cfg0.N) (g : Fin 8) (k : Fin 64) :
    partialAt (V1 m ρ) c t (ix2 g k) = ∑ r ∈ Finset.range 4096, term m c g k (4096 * t.val + r) := by
  have ht : t.val < 256 := lt_of_lt_of_eq t.isLt N_0
  unfold partialAt
  rw [iblk0_2, iblk0_3, iblk0_4, iblk0_5, iblk0_6, iblk0_7, iblk0_8, iblk0_9]
  rw [partialOf_apply _ _ _ _ _ _ _ _ _ _ _ _ _ _ _ _ _ _ (holds_rows1 (W0 m ρ c)) (holds_rows2 (W0 m ρ c))
    (holds_rows3 (W0 m ρ c)) (holds_gate (W0 m ρ c)) g k
    (fun r j => (m ((c : Thread nD τ).loc main_arg0) : Vec Ideal S1048576x32 .f32) (ix2 ⟨4096 * t.val + r.val, by omega⟩ j))
    (fun r j => (iblk_rows (V1 m ρ) c t r j (by omega)).trans
      (congrFun (W1_args m ρ c main_arg0 (by decide)) _)), Finset.sum_range]
  refine Finset.sum_congr rfl fun r _ => ?_
  have hr : 4096 * t.val + r.val < 1048576 := by omega
  rw [term, dif_pos hr, iblk_segs (V1 m ρ) c t r]
  refine congrArg (fun s => hot s g * _) (segs_apply (W0 m ρ c) (t.cast N_0) r hr)

/-- The two halves of stage 1's result array add up to the pooled features. -/
theorem halves_eq (g : Fin 8) (k : Fin 64) :
    result (V1 m ρ) c (ix3 0 g k) + result (V1 m ρ) c (ix3 1 g k)
      = pooled (m ((c : Thread nD τ).loc main_arg0)) (m ((c : Thread nD τ).loc main_arg2)) (m ((c : Thread nD τ).loc main_arg4))
          (m ((c : Thread nD τ).loc main_arg5)) (m ((c : Thread nD τ).loc main_arg6)) (m ((c : Thread nD τ).loc main_arg7))
          (m ((c : Thread nD τ).loc main_arg8)) (m ((c : Thread nD τ).loc main_arg9)) (m ((c : Thread nD τ).loc main_arg10))
          (m ((c : Thread nD τ).loc main_arg11)) g k := by
  have half : ∀ h : Fin 2, result (V1 m ρ) c (ix3 h g k)
      = ∑ s ∈ Finset.range 128, ∑ r ∈ Finset.range 4096, term m c g k (4096 * (128 * h.val + s) + r) := fun h => by
    refine Finset.sum_congr rfl fun s hs => ?_
    have hn : 128 * h.val + s < cfg0.N := by
      have := Finset.mem_range.mp hs
      rw [show cfg0.N = 256 from N_0]; omega
    rw [← partialAt_apply m ρ c ⟨128 * h.val + s, hn⟩ g k]
    show addend (V1 m ρ) c (128 * h.val + s) (ix3 0 g k) = _
    rw [addend, dif_pos hn]
    exact shapeCast_ab_1ab_apply _ shapeCasts_S8x64_S1x8x64 0 g k
  have all : ∑ h ∈ Finset.range 2, ∑ s ∈ Finset.range 128, ∑ r ∈ Finset.range 4096, term m c g k (4096 * (128 * h + s) + r)
      = ∑ n ∈ Finset.range 1048576, term m c g k n := by
    rw [sum_blocks (fun b => ∑ r ∈ Finset.range 4096, term m c g k (4096 * b + r)) 128 2, sum_blocks]
  rw [half, half]
  rw [Finset.sum_range_succ, Finset.sum_range_one] at all
  refine all.trans ?_
  rw [Finset.sum_range]
  refine Finset.sum_congr rfl fun r _ => ?_
  rw [term, dif_pos r.isLt]

end Cert.KernelIdeal.KernelPooled

end
-- ==== Proof.KernelScores.lean ====
/- The scores the second stage computes: entry `(f, g)` is the score of factor `f`, whatever `g`. -/
module

public import proofs.«01_k».proof.Proof.KernelRows
public import Idealize.ShloMosaic.Lib.ValueLayout

@[expose] public section

set_option maxRecDepth 16384

noncomputable section

namespace Cert.KernelIdeal.Scores

open Cert.KernelIdeal.Gen Cert.KernelIdeal.Run Cert.KernelIdeal.Rows Cert.Spec
open Idealize.ShloMosaic Idealize.ShloMosaic.TcCoe Idealize.ShloMosaic.ValueIdx Idealize.ShloMosaic.Pipeline

/-- The membership bit: entry `(f, g)` compares the word of row `f` with `g`. -/
theorem member_apply (x2 : Vec Ideal S128x8 .i32) (f : Fin 128) (g : Fin 8) :
    k1_pay4 x2 (ix2 f g) = BitVec.ofBool (x2 (ix2 f g) == BitVec.ofNat 32 g.val) := by
  unfold k1_pay4
  rw [shapeCast_self]
  show IntOp.cmpi .eq (x2 (ix2 f g)) (iota .tc S128x8 32 [1] iota_S128x8_d1_w32 (ix2 f g)) = _
  rw [iota_single_apply]
  rfl

/-- The membership bit as a number. -/
theorem onehot_apply (x2 : Vec Ideal S128x8 .i32) (f : Fin 128) (g : Fin 8) :
    k1_pay5 (F := Ideal) x2 (ix2 f g) = hot (x2 (ix2 f g)) g := by
  unfold k1_pay5
  rw [sitofp_apply, extui_apply, member_apply]
  exact bit_apply _ _

/-- Words of small numbers are equal only if the numbers are. -/
theorem ofNat_inj {n : Nat} (hn : n ≤ 128) (a b : Fin n) : BitVec.ofNat 32 a.val = BitVec.ofNat 32 b.val ↔ a = b := by
  refine ⟨fun h => ?_, fun h => by rw [h]⟩
  have e := congrArg BitVec.toNat h
  simp only [BitVec.toNat_ofNat] at e
  refine Fin.ext ?_
  rwa [Nat.mod_eq_of_lt (by omega), Nat.mod_eq_of_lt (by omega)] at e

/-- The one-hot entry of a number's word. -/
theorem hot_ofNat {n : Nat} (hn : n ≤ 128) (a b : Fin n) : hot (BitVec.ofNat 32 a.val) b = if a = b then 1 else 0 :=
  if_congr (ofNat_inj hn a b) rfl rfl

/-- The product with the one-hot matrix picks the features of the factor's group. -/
theorem pay6_apply (v0 v2 : Vec Ideal S1x8x64 .f32) (x2 : Vec Ideal S128x8 .i32) (P : Fin 8 → Fin 64 → EReal)
    (q : Fin 128 → Fin 8) (hP : ∀ g c, v0 (ix3 0 g c) + v2 (ix3 0 g c) = P g c)
    (hq : ∀ f g, x2 (ix2 f g) = BitVec.ofNat 32 (q f).val) (f : Fin 128) (c : Fin 64) :
    k1_pay6 v0 v2 x2 (ix2 f c) = P (q f) c := by
  unfold k1_pay6
  refine (Ideal.matmul_plain_apply none _ _ _ f c).trans ?_
  rw [constant_apply, Ideal.ofBits_zero_f32, zero_add, Finset.sum_eq_single (q f)]
  · rw [onehot_apply, hq, hot_ofNat (by decide), if_pos rfl, one_mul, addf_apply,
      shapeCast_1ab_ab_apply _ shapeCasts_S1x8x64_S8x64, shapeCast_1ab_ab_apply _ shapeCasts_S1x8x64_S8x64]
    exact hP (q f) c
  · intro g _ hg
    rw [onehot_apply, hq, hot_ofNat (by decide), if_neg (Ne.symm hg), zero_mul]
  · exact fun h => absurd (Finset.mem_univ _) h

/-- The three layers of the factor perceptron. -/
theorem factor_apply (x1 : Vec Ideal S128x64 .f32) (x3 x4 : Vec Ideal S1x64 .f32) (x5 : Vec Ideal S64x64 .f32)
    (x6 : Vec Ideal S1x64 .f32) (x7 : Vec Ideal S64x64 .f32) (x8 : Vec Ideal S1x64 .f32)
    (factor : Fin 128 → EReal) (hf : ∀ f c, x1 (ix2 f c) = factor f)
    (u1 : Mat 64 1) (c1 : Arr 64) (u2 : Mat 64 64) (c2 : Arr 64) (u3 : Mat 64 64) (c3 : Arr 64)
    (hu1 : ∀ c, x3 (ix2 0 c) = u1 (ix2 c 0)) (hc1 : ∀ c, x4 (ix2 0 c) = c1 (ix1 c))
    (h2 : Holds x5 x6 u2 c2) (h3 : Holds x7 x8 u3 c3) (f : Fin 128) (c : Fin 64) :
    maximumf (addf (k1_pay7 x1 x3 x4 x5 x6 x7)
      (broadcastTo S128x64 (shapeCast S1x64 x8 shapeCasts_S1x64_S1x64) broadcasts_S1x64_S128x64))
      (broadcast S128x64 (Scalar.ofBits (F := Ideal) .f32 0x00000000#32)) (ix2 f c)
      = mlp (fun _ : Fin 1 => factor f) u1 c1 u2 c2 u3 c3 c := by
  have first : ∀ k : Fin 64, maximumf (addf (mulf x1 (broadcastTo S128x64 x3 broadcasts_S1x64_S128x64))
      (broadcastTo S128x64 x4 broadcasts_S1x64_S128x64)) (broadcast S128x64 (Scalar.ofBits (F := Ideal) .f32 0x00000000#32)) (ix2 f k)
      = dense (fun _ : Fin 1 => factor f) u1 c1 k := fun k => by
    rw [maximumf_apply, addf_apply, mulf_apply, rowBroadcast_apply, rowBroadcast_apply, hf, hu1, hc1]
    refine congrArg₂ max ?_ Ideal.ofBits_zero_f32
    rw [linear, Fin.sum_univ_one]
  unfold k1_pay7
  simp only [shapeCast_self]
  exact kernel_dense _ _ _ broadcasts_S1x64_S128x64 f c _ u3 c3
    (fun k => kernel_dense _ _ _ broadcasts_S1x64_S128x64 f k _ u2 c2 first h2.weight h2.bias) h3.weight h3.bias

/-- The last layer's weight, repeated for each of the eight columns. -/
def lastWeight (s : Mat 1 64) : Mat 8 64 := fun i => s (ix2 0 ((i 1 : Fin 64)))

/-- The last layer's bias, repeated for each of the eight columns. -/
def lastBias (d : Arr 1) : Arr 8 := fun _ => d (ix1 0)

/-- The scores: entry `(f, g)` is the score of factor `f` with the features of its group. -/
theorem scores_apply (v0 v2 : Vec Ideal S1x8x64 .f32) (x2 : Vec Ideal S128x8 .i32) (P : Fin 8 → Fin 64 → EReal)
    (q : Fin 128 → Fin 8) (hP : ∀ g c, v0 (ix3 0 g c) + v2 (ix3 0 g c) = P g c)
    (hq : ∀ f g, x2 (ix2 f g) = BitVec.ofNat 32 (q f).val)
    (x1 : Vec Ideal S128x64 .f32) (x3 x4 : Vec Ideal S1x64 .f32) (x5 : Vec Ideal S64x64 .f32) (x6 : Vec Ideal S1x64 .f32)
    (x7 : Vec Ideal S64x64 .f32) (x8 : Vec Ideal S1x64 .f32) (x9 : Vec Ideal S128x64 .f32) (x10 : Vec Ideal S1x64 .f32)
    (x11 : Vec Ideal S64x64 .f32) (x12 : Vec Ideal S1x64 .f32) (x13 : Vec Ideal S64x8 .f32) (x14 : Vec Ideal S1x8 .f32)
    (factor : Fin 128 → EReal) (hf : ∀ f c, x1 (ix2 f c) = factor f)
    (u1 : Mat 64 1) (c1 : Arr 64) (u2 : Mat 64 64) (c2 : Arr 64) (u3 : Mat 64 64) (c3 : Arr 64)
    (s1 : Mat 64 128) (d1 : Arr 64) (s2 : Mat 64 64) (d2 : Arr 64) (s3 : Mat 1 64) (d3 : Arr 1)
    (hu1 : ∀ c, x3 (ix2 0 c) = u1 (ix2 c 0)) (hc1 : ∀ c, x4 (ix2 0 c) = c1 (ix1 c))
    (h2 : Holds x5 x6 u2 c2) (h3 : Holds x7 x8 u3 c3) (k1 : Holds x9 x10 s1 d1) (k2 : Holds x11 x12 s2 d2)
    (hs3 : ∀ k g, x13 (ix2 k g) = s3 (ix2 0 k)) (hd3 : ∀ g, x14 (ix2 0 g) = d3 (ix1 0)) (f : Fin 128) (g : Fin 8) :
    k1_pay8 (k1_pay6 v0 v2 x2) (k1_pay7 x1 x3 x4 x5 x6 x7) x8 x9 x10 x11 x12 x13 x14 (ix2 f g)
      = logit (P (q f)) (factor f) u1 c1 u2 c2 u3 c3 s1 d1 s2 d2 s3 d3 := by
  unfold k1_pay8
  simp only [shapeCast_self]
  refine kernel_dense _ _ _ broadcasts_S1x8_S128x8 f g _ (lastWeight s3) (lastBias d3)
    (fun k => kernel_dense _ _ _ broadcasts_S1x64_S128x64 f k _ s2 d2
      (fun k => kernel_dense _ _ _ broadcasts_S1x64_S128x64 f k _ s1 d1 (fun k => ?_) k1.weight k1.bias) k2.weight k2.bias)
    (fun k g => hs3 k g) (fun g => hd3 g)
  unfold pair
  by_cases h : k.val < 64
  · rw [dif_pos h]
    refine (concatenate_pair_apply_left 1 _ _ concatenates_S128x64_S128x64_S128x128_d1 (ix2 f k) rfl (ix2 f ⟨k.val, h⟩) fun b => ?_).trans
      (pay6_apply v0 v2 x2 P q hP hq f ⟨k.val, h⟩)
    match b with
    | ⟨0, _⟩ => rfl
    | ⟨1, _⟩ => rfl
  · rw [dif_neg h]
    have hk : k.val - 64 < 64 := by have := k.isLt; omega
    refine (concatenate_pair_apply_right 1 _ _ concatenates_S128x64_S128x64_S128x128_d1 (ix2 f k) rfl rfl (ix2 f ⟨k.val - 64, hk⟩)
      (fun b hb => ?_) ?_).trans
      (factor_apply x1 x3 x4 x5 x6 x7 x8 factor hf u1 c1 u2 c2 u3 c3 hu1 hc1 h2 h3 f ⟨k.val - 64, hk⟩)
    · match b, hb with
      | ⟨0, _⟩, _ => rfl
      | ⟨1, _⟩, hb => exact absurd rfl hb
    · show k.val - 64 + 64 = k.val
      omega

end Cert.KernelIdeal.Scores

end
-- ==== Proof.KernelShares.lean ====
/- The second stage after the scores: the shares, the two results, read at an index. -/
module

public import proofs.«01_k».proof.Proof.KernelScores

@[expose] public section

set_option maxRecDepth 16384

noncomputable section

namespace Cert.KernelIdeal.Shares

open Cert.KernelIdeal.Gen Cert.KernelIdeal.Run Cert.KernelIdeal.Rows Cert.Spec
open Idealize.ShloMosaic Idealize.ShloMosaic.TcCoe Idealize.ShloMosaic.ValueIdx Idealize.ShloMosaic.Pipeline

/-- The large negative number that stands in for the scores of other groups. -/
def low : EReal := Ideal.ofBits .f32 0xF149F2CA#32

/-- The small positive number that bounds the denominators from below. -/
def tiny : EReal := Ideal.ofBits .f32 0x0DA24260#32

variable (l : Fin 128 → EReal) (q : Fin 128 → Fin 8)

/-- The largest score of group `g`, the scores of other groups replaced by `low`. -/
def top (g : Fin 8) : EReal := Finset.univ.fold max ⊥ fun f => if q f = g then l f else low

/-- The exponential of factor `f` in column `g`: zero where `g` isn't its group. -/
def weight (f : Fin 128) (g : Fin 8) : EReal := Ideal.exp (min (l f - top l q g) 0) * if q f = g then 1 else 0

/-- The share of factor `f` in column `g`. -/
def share (f : Fin 128) (g : Fin 8) : EReal := Ideal.div (weight l q f g) (max (∑ k, weight l q k g) tiny)

/-- The largest share in column `g`. -/
def best (g : Fin 8) : EReal := Finset.univ.fold max ⊥ fun f => share l q f g

/-- The first factor of group `g` that has the largest share, at most `127`. -/
def chosen (g : Fin 8) : BitVec 32 :=
  IntOp.minsi (Finset.univ.fold IntOp.minsi 2147483647#32 fun f : Fin 128 =>
    if q f = g ∧ best l q g ≤ share l q f g then BitVec.ofNat 32 f.val else 128#32) 127#32

variable (v8 : IVec S128x8 1) (v10 v68 : FVec Ideal S128x8 .f32) (v71 : FVec Ideal S8 .f32)

/-- What the operands of the shares hold. -/
structure Operands : Prop where
  member : ∀ f g, v8 (ix2 f g) = BitVec.ofBool (decide (q f = g))
  hot : ∀ f g, v10 (ix2 f g) = if q f = g then 1 else 0
  score : ∀ f g, v68 (ix2 f g) = l f
  max : ∀ g, v71 (ix1 g) = top l q g

/-- The bit pattern of minus infinity. -/
theorem ofBits_bot : Ideal.ofBits .f32 0xFF800000#32 = ⊥ := by simp [Ideal.ofBits, Ideal.ieee]

/-- The index of row `f` in column `g`. -/
theorem lift_col (g : Fin 8) (f : Fin 128) : reduces_S128x8_S8.lift (ix1 g) f = ix2 f g := by
  funext a
  match a with
  | ⟨0, _⟩ => rfl
  | ⟨1, _⟩ => rfl

/-- A sum down a column. -/
theorem sum_col (x : FVec Ideal S128x8 .f32) (h2 : FKind.Formats .f32) (h3 : (0x00000000#32 : BitVec 32) = FKind.add.neutral .f32 h2)
    (u : Fin 1) (g : Fin 8) :
    shapeCast S1x8 (multiReduction .add [0] S8 x 0x00000000#32 reduces_S128x8_S8 h2 h3) shapeCasts_S8_S1x8 (ix2 u g)
      = ∑ f : Fin 128, x (ix2 f g) := by
  rw [shapeCast_a_1a_apply]
  refine (Ideal.multiReduction_add_single x _ reduces_S128x8_S8 h2 h3 (ix1 g)).trans ?_
  exact Finset.sum_congr rfl fun f _ => congrArg x (lift_col g f)

/-- A maximum down a column. -/
theorem max_col (x : FVec Ideal S128x8 .f32) (h2 : FKind.Formats .f32) (h3 : (0xFF800000#32 : BitVec 32) = FKind.maximumf.neutral .f32 h2)
    (g : Fin 8) :
    multiReduction .maximumf [0] S8 x 0xFF800000#32 reduces_S128x8_S8 h2 h3 (ix1 g)
      = Finset.univ.fold max ⊥ fun f : Fin 128 => x (ix2 f g) := by
  refine (Ideal.multiReduction_maximumf_single x _ reduces_S128x8_S8 h2 h3 (ix1 g)).trans ?_
  refine congrArg₂ (fun b y => Finset.univ.fold max b y) ofBits_bot (funext fun f => congrArg x (lift_col g f))

/-- A minimum of words down a column. -/
theorem min_col (x : IVec S128x8 32) (h3 : (2147483647#32 : BitVec 32) = IKind.minsi.neutral) (g : Fin 8) :
    multiReductionI .minsi [0] S8 x 2147483647#32 reduces_S128x8_S8 h3 (ix1 g)
      = Finset.univ.fold IntOp.minsi 2147483647#32 fun f : Fin 128 => x (ix2 f g) := by
  rw [multiReductionI_eq_fold]
  refine (reduces_S128x8_S8.fold_filter_drop_single _ _ x (ix1 g)).trans ?_
  exact congrArg (fun y => Finset.univ.fold IntOp.minsi 2147483647#32 y) (funext fun f => congrArg x (lift_col g f))

/-- The largest scores, column by column. -/
theorem top_apply (hm : ∀ f g, v8 (ix2 f g) = BitVec.ofBool (decide (q f = g))) (hs : ∀ f g, v68 (ix2 f g) = l f)
    (h2 : FKind.Formats .f32) (h3 : (0xFF800000#32 : BitVec 32) = FKind.maximumf.neutral .f32 h2) (g : Fin 8) :
    multiReduction .maximumf [0] S8 (select v8 v68 (broadcast S128x8 (Scalar.ofBits (F := Ideal) .f32 0xF149F2CA#32)))
      0xFF800000#32 reduces_S128x8_S8 h2 h3 (ix1 g) = top l q g := by
  rw [max_col]
  refine congrArg (fun y => Finset.univ.fold max ⊥ y) (funext fun f => ?_)
  rw [select_apply, hm, hs, broadcast_apply]
  by_cases h : q f = g
  · rw [decide_eq_true h, if_pos h]
    exact select_one _ _
  · rw [decide_eq_false h, if_neg h]
    exact select_zero _ _

variable {l q v8 v10 v68 v71}

/-- The numerator of the shares. -/
theorem weight_apply (H : Operands l q v8 v10 v68 v71) (f : Fin 128) (g : Fin 8) :
    mulf (exp (minimumf (subf v68 (broadcastTo S128x8 (shapeCast S1x8 v71 shapeCasts_S8_S1x8) broadcasts_S1x8_S128x8))
      (broadcast S128x8 (Scalar.ofBits (F := Ideal) .f32 0x00000000#32)))) v10 (ix2 f g) = weight l q f g := by
  rw [mulf_apply, H.hot]
  refine congrArg (· * _) (congrArg Ideal.exp ?_)
  rw [minimumf_apply, subf_apply, rowBroadcast_apply, shapeCast_a_1a_apply, H.score, H.max]
  exact congrArg (min _) Ideal.ofBits_zero_f32

/-- The shares. -/
theorem share_apply (H : Operands l q v8 v10 v68 v71) (f : Fin 128) (g : Fin 8) :
    k1_pay1 v10 v68 v71 (ix2 f g) = share l q f g := by
  unfold k1_pay1
  refine congrArg₂ Ideal.div (weight_apply H f g) ?_
  rw [rowBroadcast_apply]
  exact congrArg₂ max ((sum_col _ _ _ 0 g).trans (Finset.sum_congr rfl fun k _ => weight_apply H k g)) rfl

/-- The first result: the scores times their shares, summed. -/
theorem improve_apply (H : Operands l q v8 v10 v68 v71) :
    k1_pay2 v10 v68 v71 = fun _ => ∑ g, ∑ f, l f * share l q f g := by
  funext i
  rw [show i = ix2 0 0 from funext fun a => match a with
    | ⟨0, _⟩ => Subsingleton.elim (α := Fin 1) _ _
    | ⟨1, _⟩ => Subsingleton.elim (α := Fin 1) _ _]
  unfold k1_pay2
  rw [shapeCast_a_1a_apply]
  refine (Ideal.multiReduction_add_single _ _ reduces_S1x8_S1 _ _ (ix1 0)).trans ?_
  refine Finset.sum_congr rfl fun (g : Fin 8) _ => ?_
  rw [show reduces_S1x8_S1.lift (ix1 0) g = ix2 0 g from funext fun a => match a with
    | ⟨0, _⟩ => rfl
    | ⟨1, _⟩ => rfl]
  refine (sum_col _ _ _ 0 g).trans (Finset.sum_congr rfl fun f _ => ?_)
  rw [mulf_apply, H.score, share_apply H]

/-- The words the second result takes the minimum of. -/
theorem place_apply (H : Operands l q v8 v10 v68 v71) (f : Fin 128) (g : Fin 8) (y : FVec Ideal S1x8 .f32)
    (hy : y (ix2 0 g) = best l q g) :
    select (andi v8 (cmpf .oge (k1_pay1 v10 v68 v71) (broadcastTo S128x8 y broadcasts_S1x8_S128x8)))
      (iota .tc S128x8 32 [0] iota_S128x8_d0_w32) (broadcast S128x8 128#32) (ix2 f g)
      = if q f = g ∧ best l q g ≤ share l q f g then BitVec.ofNat 32 f.val else 128#32 := by
  rw [select_apply, iota_single_apply]
  have e : andi v8 (cmpf .oge (k1_pay1 v10 v68 v71) (broadcastTo S128x8 y broadcasts_S1x8_S128x8)) (ix2 f g)
      = BitVec.ofBool (decide (q f = g)) &&& BitVec.ofBool (decide (best l q g ≤ share l q f g)) := by
    show v8 (ix2 f g) &&& FloatOps.cmpf (F := Ideal) .oge _ _ = _
    rw [H.member, share_apply H, rowBroadcast_apply, hy]
    rfl
  rw [e]
  by_cases h1 : q f = g <;> by_cases h2 : best l q g ≤ share l q f g <;> simp [h1, h2] <;> rfl

/-- The second result: the factors at the chosen places. -/
theorem choice_apply (H : Operands l q v8 v10 v68 v71) (v12 : Vec Ideal S128x64 .f32) (factor : Fin 128 → EReal)
    (hf : ∀ f c, v12 (ix2 f c) = factor f) (g : Fin 8) :
    k1_pay3 v8 v10 v12 v68 v71 (ix2 0 g) = ∑ f : Fin 128, (if BitVec.ofNat 32 f.val = chosen l q g then 1 else 0) * factor f := by
  unfold k1_pay3
  refine (sum_col _ _ _ 0 g).trans ?_
  refine Finset.sum_congr rfl fun f _ => ?_
  rw [mulf_apply, extractStridedSlice_apply ![0, 0] v12 slices_S128x64_o0_0_S128x8 (ix2 f g) (ix2 f ⟨g.val, by omega⟩) (fun a => by
    match a with
    | ⟨0, _⟩ => exact (Nat.zero_add _).symm
    | ⟨1, _⟩ => exact (Nat.zero_add _).symm), hf]
  refine congrArg (· * factor f) ?_
  rw [sitofp_apply, extui_apply]
  refine (bit_apply _ _).trans ?_
  rw [iota_single_apply, rowBroadcast_apply]
  refine if_congr (Eq.congr_right ?_) rfl rfl
  show IntOp.minsi (shapeCast S1x8 _ shapeCasts_S8_S1x8 (ix2 0 g)) 127#32 = _
  rw [shapeCast_a_1a_apply]
  refine congrArg (fun y => IntOp.minsi y 127#32) ((min_col _ _ g).trans ?_)
  refine congrArg (fun y => Finset.univ.fold IntOp.minsi 2147483647#32 y) (funext fun f => ?_)
  refine place_apply H f g _ ?_
  rw [shapeCast_a_1a_apply]
  refine (max_col _ _ _ g).trans ?_
  exact congrArg (fun y => Finset.univ.fold max ⊥ y) (funext fun f => share_apply H f g)

end Cert.KernelIdeal.Shares

end
-- ==== Proof.KernelResults.lean ====
/- The two results of the kernel, from its arguments. -/
module

public import proofs.«01_k».proof.Proof.KernelPooled
public import proofs.«01_k».proof.Proof.KernelShares

@[expose] public section

set_option maxRecDepth 16384

noncomputable section

namespace Cert.KernelIdeal.Results

open Cert.KernelIdeal.Gen Cert.KernelIdeal.Run Cert.KernelIdeal.HostReads Cert.KernelIdeal.WholeBlocks Cert.Spec
open Cert.KernelIdeal.Shares
open Idealize.ShloMosaic Idealize.ShloMosaic.TcCoe Idealize.ShloMosaic.ValueIdx Idealize.ShloMosaic.Pipeline

variable (m : (ℓ : Loc nD τ sig) → Buf (Elt Ideal) ℓ) (ρ : Dev nD → PrngReg) (c : Dev nD)

/-- The scores, from the arguments in memory. -/
def scores (q : Fin 128 → Fin 8) : Fin 128 → EReal :=
  score (m ((c : Thread nD τ).loc main_arg0)) (m ((c : Thread nD τ).loc main_arg1)) (m ((c : Thread nD τ).loc main_arg2))
    (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9))
    (m ((c : Thread nD τ).loc main_arg10)) (m ((c : Thread nD τ).loc main_arg11)) (m ((c : Thread nD τ).loc main_arg12))
    (m ((c : Thread nD τ).loc main_arg13)) (m ((c : Thread nD τ).loc main_arg14)) (m ((c : Thread nD τ).loc main_arg15))
    (m ((c : Thread nD τ).loc main_arg16)) (m ((c : Thread nD τ).loc main_arg17)) (m ((c : Thread nD τ).loc main_arg18))
    (m ((c : Thread nD τ).loc main_arg19)) (m ((c : Thread nD τ).loc main_arg20)) (m ((c : Thread nD τ).loc main_arg21))
    (m ((c : Thread nD τ).loc main_arg22)) (m ((c : Thread nD τ).loc main_arg23)) q

/-- The value of factor `f`. -/
def factor (f : Fin 128) : EReal := (m ((c : Thread nD τ).loc main_arg1) : Vec Ideal S128x1 .f32) (ix2 f 0)

/-- An argument at the entry of stage 2's host operations is as launched. -/
theorem arg2 (a : Ref sig .tc) (h : a ∈ argRefs) : W2 m ρ c a = m ((c : Thread nD τ).loc a) := W2_args m ρ c a h

/-- Stage 1's result array at the entry of stage 2. -/
theorem halves_entry : (V3 m ρ c main_v9 : Vec Ideal S2x8x64 .f32) = StageOne.result (V1 m ρ) c :=
  ((W3_of m ρ c main_v9 (by decide)).trans (W2_arr m ρ c 10)).trans (StageOne.final_out (V1 m ρ) c)

/-- Both offsets of a whole window are zero. -/
theorem zero2 : (![0, 0] : Fin 2 → Nat) = fun _ => 0 := funext fun a => match a with
  | ⟨0, _⟩ => rfl
  | ⟨1, _⟩ => rfl

section Bodies
variable (x0 : Vec Ideal S2x8x64 .f32) (x1 : Vec Ideal S128x64 .f32) (x2 : Vec Ideal S128x8 .i32) (x3 x4 : Vec Ideal S1x64 .f32)
  (x5 : Vec Ideal S64x64 .f32) (x6 : Vec Ideal S1x64 .f32) (x7 : Vec Ideal S64x64 .f32) (x8 : Vec Ideal S1x64 .f32)
  (x9 : Vec Ideal S128x64 .f32) (x10 : Vec Ideal S1x64 .f32) (x11 : Vec Ideal S64x64 .f32) (x12 : Vec Ideal S1x64 .f32)
  (x13 : Vec Ideal S64x8 .f32) (x14 : Vec Ideal S1x8 .f32)

/-- The score matrix of stage 2's body. -/
def scoreMat : FVec Ideal S128x8 .f32 :=
  k1_pay8 (k1_pay6 (View.ld x0 r1_0) (View.ld x0 r1_1) x2) (k1_pay7 x1 x3 x4 x5 x6 x7) x8 x9 x10 x11 x12 x13 x14

/-- The largest scores of stage 2's body. -/
def topRow : FVec Ideal S8 .f32 :=
  k1_pay9 (k1_pay4 x2) (k1_pay6 (View.ld x0 r1_0) (View.ld x0 r1_1) x2) (k1_pay7 x1 x3 x4 x5 x6 x7) x8 x9 x10 x11 x12 x13 x14

/-- What stage 2's body leaves in its first result. -/
theorem out15_eq : out1_15 x0 x1 x2 x3 x4 x5 x6 x7 x8 x9 x10 x11 x12 x13 x14
    = k1_pay2 (k1_pay5 x2) (scoreMat x0 x1 x2 x3 x4 x5 x6 x7 x8 x9 x10 x11 x12 x13 x14)
        (topRow x0 x1 x2 x3 x4 x5 x6 x7 x8 x9 x10 x11 x12 x13 x14) := by
  unfold out1_15 k1_pay11 k1_pay14 k1_pay15 k1_pay10 k1_pay12 k1_pay13
  rw [View.canon_unit_zero zero2]
  simp only [View.ld_unit_zero (S := S128x8) zero2, View.ld_unit_zero (S := S128x64) zero2, View.ld_unit_zero (S := S1x64) zero2,
    View.ld_unit_zero (S := S64x64) zero2, View.ld_unit_zero (S := S64x8) zero2, View.ld_unit_zero (S := S1x8) zero2]
  rfl

/-- What stage 2's body leaves in its second result. -/
theorem out16_eq : out1_16 x0 x1 x2 x3 x4 x5 x6 x7 x8 x9 x10 x11 x12 x13 x14
    = k1_pay3 (k1_pay4 x2) (k1_pay5 x2) x1 (scoreMat x0 x1 x2 x3 x4 x5 x6 x7 x8 x9 x10 x11 x12 x13 x14)
        (topRow x0 x1 x2 x3 x4 x5 x6 x7 x8 x9 x10 x11 x12 x13 x14) := by
  unfold out1_16 k1_pay11 k1_pay14 k1_pay15 k1_pay10 k1_pay12 k1_pay13
  rw [View.canon_unit_zero zero2]
  simp only [View.ld_unit_zero (S := S128x8) zero2, View.ld_unit_zero (S := S128x64) zero2, View.ld_unit_zero (S := S1x64) zero2,
    View.ld_unit_zero (S := S64x64) zero2, View.ld_unit_zero (S := S64x8) zero2, View.ld_unit_zero (S := S1x8) zero2]
  rfl

variable {x0 x1 x2 x3 x4 x5 x6 x7 x8 x9 x10 x11 x12 x13 x14}

/-- The operands of the shares, once the score matrix and the group words are known. -/
theorem operands_of {l : Fin 128 → EReal} {q : Fin 128 → Fin 8} (hq : ∀ f g, x2 (ix2 f g) = BitVec.ofNat 32 (q f).val)
    (hs : ∀ f g, scoreMat x0 x1 x2 x3 x4 x5 x6 x7 x8 x9 x10 x11 x12 x13 x14 (ix2 f g) = l f) :
    Operands l q (k1_pay4 x2) (k1_pay5 x2) (scoreMat x0 x1 x2 x3 x4 x5 x6 x7 x8 x9 x10 x11 x12 x13 x14)
      (topRow x0 x1 x2 x3 x4 x5 x6 x7 x8 x9 x10 x11 x12 x13 x14) := by
  have hm : ∀ f g, k1_pay4 (F := Ideal) x2 (ix2 f g) = BitVec.ofBool (decide (q f = g)) := fun f g => by
    rw [Scores.member_apply, hq]
    refine congrArg BitVec.ofBool ?_
    by_cases h : q f = g
    · rw [decide_eq_true h, h, beq_self_eq_true]
    · rw [decide_eq_false h]
      exact beq_false_of_ne fun e => h ((Scores.ofNat_inj (by decide) _ _).mp e)
  exact ⟨hm, fun f g => by rw [Scores.onehot_apply, hq, Scores.hot_ofNat (by decide)], hs,
    fun g => by unfold topRow k1_pay9; exact top_apply l q _ _ hm hs _ _ g⟩

end Bodies

/-- The first half of stage 1's result array, as stage 2 loads it. -/
theorem load_first (X : Vec Ideal S2x8x64 .f32) (g : Fin 8) (k : Fin 64) :
    (View.ld X r1_0 : Vec Ideal S1x8x64 .f32) (ix3 0 g k) = X (ix3 0 g k) :=
  congrArg X (funext fun a => Fin.ext (match a with
    | ⟨0, _⟩ => rfl
    | ⟨1, _⟩ => by show 0 + 1 * g.val = g.val; rw [Nat.zero_add, Nat.one_mul]
    | ⟨2, _⟩ => by show 0 + 1 * k.val = k.val; rw [Nat.zero_add, Nat.one_mul]))

/-- The second half of stage 1's result array, as stage 2 loads it. -/
theorem load_second (X : Vec Ideal S2x8x64 .f32) (g : Fin 8) (k : Fin 64) :
    (View.ld X r1_1 : Vec Ideal S1x8x64 .f32) (ix3 0 g k) = X (ix3 1 g k) :=
  congrArg X (funext fun a => Fin.ext (match a with
    | ⟨0, _⟩ => rfl
    | ⟨1, _⟩ => by show 0 + 1 * g.val = g.val; rw [Nat.zero_add, Nat.one_mul]
    | ⟨2, _⟩ => by show 0 + 1 * k.val = k.val; rw [Nat.zero_add, Nat.one_mul]))

/-- The pooled features, from the arguments in memory. -/
def features : Fin 8 → Fin 64 → EReal :=
  pooled (m ((c : Thread nD τ).loc main_arg0)) (m ((c : Thread nD τ).loc main_arg2)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))
    (m ((c : Thread nD τ).loc main_arg11))

/-- The two halves stage 2 loads add up to the pooled features. -/
theorem load_halves (X : Vec Ideal S2x8x64 .f32) (hX : X = StageOne.result (V1 m ρ) c) (g : Fin 8) (k : Fin 64) :
    (View.ld X r1_0 : Vec Ideal S1x8x64 .f32) (ix3 0 g k) + (View.ld X r1_1 : Vec Ideal S1x8x64 .f32) (ix3 0 g k) = features m c g k := by
  rw [load_first, load_second, hX]
  exact KernelPooled.halves_eq m ρ c g k

/-- The group words of stage 2. -/
theorem group_words (q : Fin 128 → Fin 8)
    (hq : ∀ f, (m ((c : Thread nD τ).loc main_arg3) : Vec Ideal S128 .i32) (ix1 f) = BitVec.ofNat 32 (q f).val) (f : Fin 128) (g : Fin 8) :
    (V3 m ρ c main_v16 : Vec Ideal S128x8 .i32) (ix2 f g) = BitVec.ofNat 32 (q f).val :=
  ((fsegs_apply (W2 m ρ c) f g).trans (congrFun (arg2 m ρ c main_arg3 (by decide)) _)).trans (hq f)

/-- The score matrix at stage 2's point, from the arguments. -/
theorem scoreMat_apply (q : Fin 128 → Fin 8)
    (hq : ∀ f, (m ((c : Thread nD τ).loc main_arg3) : Vec Ideal S128 .i32) (ix1 f) = BitVec.ofNat 32 (q f).val) (f : Fin 128) (g : Fin 8) :
    scoreMat (V3 m ρ c main_v9) (V3 m ρ c main_v12) (V3 m ρ c main_v16) (V3 m ρ c main_v17) (V3 m ρ c main_v18)
      (V3 m ρ c main_v19) (V3 m ρ c main_v20) (V3 m ρ c main_v21) (V3 m ρ c main_v22) (V3 m ρ c main_v23) (V3 m ρ c main_v24)
      (V3 m ρ c main_v25) (V3 m ρ c main_v26) (V3 m ρ c main_v30) (V3 m ρ c main_v34) (ix2 f g) = scores m c q f := by
  unfold scores score
  rw [← arg2 m ρ c main_arg1 (by decide), ← arg2 m ρ c main_arg12 (by decide), ← arg2 m ρ c main_arg13 (by decide),
    ← arg2 m ρ c main_arg14 (by decide), ← arg2 m ρ c main_arg15 (by decide), ← arg2 m ρ c main_arg16 (by decide),
    ← arg2 m ρ c main_arg17 (by decide), ← arg2 m ρ c main_arg18 (by decide), ← arg2 m ρ c main_arg19 (by decide),
    ← arg2 m ρ c main_arg20 (by decide), ← arg2 m ρ c main_arg21 (by decide), ← arg2 m ρ c main_arg22 (by decide),
    ← arg2 m ρ c main_arg23 (by decide)]
  exact Scores.scores_apply _ _ _ (features m c) q (load_halves m ρ c _ (halves_entry m ρ c)) (fun f g => group_words m ρ c q hq f g) _ _ _ _ _ _ _ _ _ _ _ _ _
    (fun f => (W2 m ρ c main_arg1 : Vec Ideal S128x1 .f32) (ix2 f 0)) (factors_apply (W2 m ρ c)) _ _ _ _ _ _ _ _ _ _ _ _
    (factor_weight_apply (W2 m ρ c)) (factor_bias_apply (W2 m ρ c)) (holds_factors2 (W2 m ρ c)) (holds_factors3 (W2 m ρ c))
    (holds_score1 (W2 m ρ c)) (holds_score2 (W2 m ρ c)) (score_weight_apply (W2 m ρ c)) (score_bias_apply (W2 m ρ c)) f g

/-- The share operands at stage 2's point. -/
theorem operands (q : Fin 128 → Fin 8)
    (hq : ∀ f, (m ((c : Thread nD τ).loc main_arg3) : Vec Ideal S128 .i32) (ix1 f) = BitVec.ofNat 32 (q f).val) :
    Operands (scores m c q) q (k1_pay4 (V3 m ρ c main_v16)) (k1_pay5 (V3 m ρ c main_v16))
      (scoreMat (V3 m ρ c main_v9) (V3 m ρ c main_v12) (V3 m ρ c main_v16) (V3 m ρ c main_v17) (V3 m ρ c main_v18)
        (V3 m ρ c main_v19) (V3 m ρ c main_v20) (V3 m ρ c main_v21) (V3 m ρ c main_v22) (V3 m ρ c main_v23) (V3 m ρ c main_v24)
        (V3 m ρ c main_v25) (V3 m ρ c main_v26) (V3 m ρ c main_v30) (V3 m ρ c main_v34))
      (topRow (V3 m ρ c main_v9) (V3 m ρ c main_v12) (V3 m ρ c main_v16) (V3 m ρ c main_v17) (V3 m ρ c main_v18)
        (V3 m ρ c main_v19) (V3 m ρ c main_v20) (V3 m ρ c main_v21) (V3 m ρ c main_v22) (V3 m ρ c main_v23) (V3 m ρ c main_v24)
        (V3 m ρ c main_v25) (V3 m ρ c main_v26) (V3 m ρ c main_v30) (V3 m ρ c main_v34)) :=
  operands_of (group_words m ρ c q hq) (scoreMat_apply m ρ c q hq)

/-- The first result array of stage 2. -/
def firstArray (q : Fin 128 → Fin 8) : Vec Ideal S1x1 .f32 := fun _ => ∑ g, ∑ f, scores m c q f * share (scores m c q) q f g

/-- The second result array of stage 2. -/
def secondArray (q : Fin 128 → Fin 8) : Vec Ideal S1x8 .f32 := fun i =>
  ∑ f : Fin 128, (if BitVec.ofNat 32 f.val = chosen (scores m c q) q (i 1) then 1 else 0) * factor m c f

/-- What is written back to the first result array. -/
theorem flushed_first (q : Fin 128 → Fin 8)
    (hq : ∀ f, (m ((c : Thread nD τ).loc main_arg3) : Vec Ideal S128 .i32) (ix1 f) = BitVec.ofNat 32 (q f).val) (t : Fin cfg1.N) :
    (dat1 (V3 m ρ) c).flushed 15 t = ((cfg1.win 15).blk t).view.read (Elt Ideal) (firstArray m c q) := by
  show (cfg1.win 15).cut (grid1.coords t) ((dat1 (V3 m ρ) c).after 15 t) = _
  rw [after1_15, iblk1_0, iblk1_1, iblk1_2, iblk1_3, iblk1_4, iblk1_5, iblk1_6, iblk1_7, iblk1_8, iblk1_9, iblk1_10, iblk1_11,
    iblk1_12, iblk1_13, iblk1_14, out15_eq, improve_apply (operands m ρ c q hq)]
  rfl

/-- What is written back to the second result array. -/
theorem flushed_second (q : Fin 128 → Fin 8)
    (hq : ∀ f, (m ((c : Thread nD τ).loc main_arg3) : Vec Ideal S128 .i32) (ix1 f) = BitVec.ofNat 32 (q f).val) (t : Fin cfg1.N) :
    (dat1 (V3 m ρ) c).flushed 16 t = ((cfg1.win 16).blk t).view.read (Elt Ideal) (secondArray m c q) := by
  show (cfg1.win 16).cut (grid1.coords t) ((dat1 (V3 m ρ) c).after 16 t) = _
  rw [after1_16, iblk1_0, iblk1_1, iblk1_2, iblk1_3, iblk1_4, iblk1_5, iblk1_6, iblk1_7, iblk1_8, iblk1_9, iblk1_10, iblk1_11,
    iblk1_12, iblk1_13, iblk1_14, out16_eq]
  funext y
  rw [View.read_apply]
  have e1 : ((cfg1.win 16).blk t).view.emb y 1 = y 1 := by
    apply Fin.ext
    show win1_16.index t 1 * 8 + 1 * (y 1).val = _
    rw [show win1_16.index t 1 = 0 from rfl, Nat.zero_mul, Nat.zero_add, Nat.one_mul]
  unfold secondArray
  rw [e1]
  refine Eq.trans ?_ (choice_apply (operands m ρ c q hq) (V3 m ρ c main_v12) (factor m c)
    (fun f k => (factors_apply (W2 m ρ c) f k).trans (congrFun (arg2 m ρ c main_arg1 (by decide)) _)) (y 1))
  refine congrArg (k1_pay3 _ _ _ _ _) ?_
  exact funext fun a => match a with
    | ⟨0, _⟩ => Subsingleton.elim (α := Fin 1) _ _
    | ⟨1, _⟩ => rfl

/-- The first result array after the run. -/
theorem first_out (q : Fin 128 → Fin 8)
    (hq : ∀ f, (m ((c : Thread nD τ).loc main_arg3) : Vec Ideal S128 .i32) (ix1 f) = BitVec.ofNat 32 (q f).val) :
    (dat1 (V3 m ρ) c).arrAt 15 cfg1.N = firstArray m c q :=
  (dat1 (V3 m ρ) c).arrAt_eq_of_cover 15 (firstArray m c q) (fun t _ => flushed_first m ρ c q hq t) fun (i : S1x1.Idx) => by
    obtain ⟨t, _⟩ : ∃ t : Fin cfg1.N, t.val = 0 := ⟨⟨0, by decide⟩, rfl⟩
    refine ⟨t, flush1_15 t, ?_⟩
    show i ∈ ((View.whole main_v35_0).slice (win1_15.rect t)).set
    rw [View.set_slice_whole, Rect.mem_set_unit]
    intro a
    match a with
    | ⟨0, _⟩ => exact ⟨Nat.zero_le _, (i 0).isLt⟩
    | ⟨1, _⟩ => exact ⟨Nat.zero_le _, (i 1).isLt⟩

/-- The second result array after the run. -/
theorem second_out (q : Fin 128 → Fin 8)
    (hq : ∀ f, (m ((c : Thread nD τ).loc main_arg3) : Vec Ideal S128 .i32) (ix1 f) = BitVec.ofNat 32 (q f).val) :
    (dat1 (V3 m ρ) c).arrAt 16 cfg1.N = secondArray m c q :=
  (dat1 (V3 m ρ) c).arrAt_eq_of_cover 16 (secondArray m c q) (fun t _ => flushed_second m ρ c q hq t) fun (i : S1x8.Idx) => by
    obtain ⟨t, _⟩ : ∃ t : Fin cfg1.N, t.val = 0 := ⟨⟨0, by decide⟩, rfl⟩
    refine ⟨t, flush1_16 t, ?_⟩
    show i ∈ ((View.whole main_v35_1).slice (win1_16.rect t)).set
    rw [View.set_slice_whole, Rect.mem_set_unit]
    intro a
    match a with
    | ⟨0, _⟩ => exact ⟨Nat.zero_le _, (i 0).isLt⟩
    | ⟨1, _⟩ => exact ⟨Nat.zero_le _, (i 1).isLt⟩

/-- The kernel's first result. -/
theorem first_result (q : Fin 128 → Fin 8)
    (hq : ∀ f, (m ((c : Thread nD τ).loc main_arg3) : Vec Ideal S128 .i32) (ix1 f) = BitVec.ofNat 32 (q f).val) (i : S_.Idx) :
    (W5 m ρ c main_v36 : Vec Ideal S_ .f32) i = ∑ g, ∑ f, scores m c q f * share (scores m c q) q f g :=
  (result0_apply (W4 m ρ c) i).trans (congrFun ((W4_arr m ρ c 15).trans (first_out m ρ c q hq)) (ix2 0 0 : S1x1.Idx))

/-- The kernel's second result. -/
theorem second_result (q : Fin 128 → Fin 8)
    (hq : ∀ f, (m ((c : Thread nD τ).loc main_arg3) : Vec Ideal S128 .i32) (ix1 f) = BitVec.ofNat 32 (q f).val) (g : Fin 8) :
    (W5 m ρ c main_v37 : Vec Ideal S8 .f32) (ix1 g)
      = ∑ f : Fin 128, (if BitVec.ofNat 32 f.val = chosen (scores m c q) q g then 1 else 0) * factor m c f :=
  (result1_apply (W4 m ρ c) g).trans (congrFun ((W4_arr m ρ c 16).trans (second_out m ρ c q hq)) (ix2 0 g : S1x8.Idx))

end Cert.KernelIdeal.Results

end
-- ==== Proof.Finite.lean ====
/- The scores are real numbers, and not negative, when the arguments are real numbers. -/
module

public import proofs.«01_k».proof.Proof.Layers

@[expose] public section

set_option maxRecDepth 16384

noncomputable section

namespace Cert.Spec

open Idealize.ShloMosaic Idealize.ShloMosaic.ValueIdx

/-- An extended real that is a real number. -/
def Finite (x : EReal) : Prop := ∃ r : ℝ, x = (r : EReal)

/-- Zero is a real number. -/
theorem Finite.zero : Finite 0 := ⟨0, rfl⟩

/-- A sum of two real numbers is one. -/
theorem Finite.add {x y : EReal} (hx : Finite x) (hy : Finite y) : Finite (x + y) := by
  obtain ⟨a, rfl⟩ := hx
  obtain ⟨b, rfl⟩ := hy
  exact ⟨a + b, (EReal.coe_add a b).symm⟩

/-- A product of two real numbers is one. -/
theorem Finite.mul {x y : EReal} (hx : Finite x) (hy : Finite y) : Finite (x * y) := by
  obtain ⟨a, rfl⟩ := hx
  obtain ⟨b, rfl⟩ := hy
  exact ⟨a * b, (EReal.coe_mul a b).symm⟩

/-- The larger of two real numbers is one. -/
theorem Finite.max {x y : EReal} (hx : Finite x) (hy : Finite y) : Finite (Max.max x y) := by
  rcases max_choice x y with h | h
  · rw [h]; exact hx
  · rw [h]; exact hy

/-- A finite sum of real numbers is one. -/
theorem Finite.sum {ι : Type} (s : Finset ι) (x : ι → EReal) (hx : ∀ i, Finite (x i)) : Finite (∑ i ∈ s, x i) := by
  classical
  induction s using Finset.induction with
  | empty => exact Finite.zero
  | insert a s ha ih => rw [Finset.sum_insert ha]; exact (hx a).add ih

/-- The logistic function has real values, at the infinities too. -/
theorem Finite.logistic (x : EReal) : Finite (Ideal.logistic x) := by
  induction x with
  | bot => exact ⟨0, Ideal.logistic_bot⟩
  | top => exact ⟨1, Ideal.logistic_top⟩
  | coe r => exact ⟨_, Ideal.logistic_coe r⟩

/-- A one-hot entry is a real number. -/
theorem Finite.hot (w : BitVec 32) {n : Nat} (g : Fin n) : Finite (hot w g) := by
  unfold Cert.Spec.hot
  by_cases h : w = BitVec.ofNat 32 g.val
  · rw [if_pos h]; exact ⟨1, rfl⟩
  · rw [if_neg h]; exact Finite.zero

/-- Every entry of an array is a real number. -/
def AllFinite {s : Shape} (x : s.Idx → EReal) : Prop := ∀ i, Finite (x i)

section Layers
variable {k n : Nat} {x : Fin k → EReal}

/-- A linear layer of real numbers is real. -/
theorem linear_finite (hx : ∀ i, Finite (x i)) {W : Mat n k} {b : Arr n} (hW : AllFinite W) (hb : AllFinite b) (j : Fin n) :
    Finite (linear x W b j) := (Finite.sum _ _ fun i => (hx i).mul (hW _)).add (hb _)

/-- A layer of real numbers is real. -/
theorem dense_finite (hx : ∀ i, Finite (x i)) {W : Mat n k} {b : Arr n} (hW : AllFinite W) (hb : AllFinite b) (j : Fin n) :
    Finite (dense x W b j) := (linear_finite hx hW hb j).max Finite.zero

/-- Three layers of real numbers are real. -/
theorem mlp_finite (hx : ∀ i, Finite (x i)) {w1 : Mat 64 k} {b1 : Arr 64} {w2 : Mat 64 64} {b2 : Arr 64} {w3 : Mat n 64} {b3 : Arr n}
    (h1 : AllFinite w1) (g1 : AllFinite b1) (h2 : AllFinite w2) (g2 : AllFinite b2) (h3 : AllFinite w3) (g3 : AllFinite b3) (j : Fin n) :
    Finite (mlp x w1 b1 w2 b2 w3 b3 j) := dense_finite (dense_finite (dense_finite hx h1 g1) h2 g2) h3 g3 j

/-- A gated row of real numbers is real, whatever the attention layer's arrays. -/
theorem gated_finite (hx : ∀ i, Finite (x i)) (aw : Mat k k) (ab : Arr k) (j : Fin k) : Finite (gated x aw ab j) :=
  (Finite.logistic _).mul (hx j)

end Layers

section Scores
variable {x : Mat 1048576 32} {factors : Mat 128 1} (seg : (⟨1, ![1048576]⟩ : Shape).Idx → BitVec 32)
  {w1 : Mat 64 32} {b1 : Arr 64} {w2 : Mat 64 64} {b2 : Arr 64} {w3 : Mat 64 64} {b3 : Arr 64} (aw : Mat 64 64) (ab : Arr 64)
  {u1 : Mat 64 1} {c1 : Arr 64} {u2 : Mat 64 64} {c2 : Arr 64} {u3 : Mat 64 64} {c3 : Arr 64}
  {s1 : Mat 64 128} {d1 : Arr 64} {s2 : Mat 64 64} {d2 : Arr 64} {s3 : Mat 1 64} {d3 : Arr 1}

/-- The pooled features of real numbers are real. -/
theorem pooled_finite (hx : AllFinite x) (h1 : AllFinite w1) (g1 : AllFinite b1) (h2 : AllFinite w2) (g2 : AllFinite b2) (h3 : AllFinite w3)
    (g3 : AllFinite b3) (g : Fin 8) (c : Fin 64) : Finite (pooled x seg w1 b1 w2 b2 w3 b3 aw ab g c) :=
  Finite.sum _ _ fun r => (Finite.hot _ g).mul (gated_finite (mlp_finite (fun k => hx (ix2 r k)) h1 g1 h2 g2 h3 g3) aw ab c)

/-- A pair of real vectors is real. -/
theorem pair_finite {p r : Fin 64 → EReal} (hp : ∀ i, Finite (p i)) (hr : ∀ i, Finite (r i)) (i : Fin 128) : Finite (pair p r i) := by
  unfold pair
  by_cases h : i.val < 64
  · rw [dif_pos h]; exact hp _
  · rw [dif_neg h]; exact hr _

/-- A score is not negative: its last layer takes the positive part. -/
theorem score_nonneg (q : Fin 128 → Fin 8) (f : Fin 128) :
    0 ≤ score x factors seg w1 b1 w2 b2 w3 b3 aw ab u1 c1 u2 c2 u3 c3 s1 d1 s2 d2 s3 d3 q f := le_max_right _ _

/-- The scores of real arguments are real. -/
theorem score_finite (hx : AllFinite x) (hf : AllFinite factors) (h1 : AllFinite w1) (g1 : AllFinite b1) (h2 : AllFinite w2) (g2 : AllFinite b2)
    (h3 : AllFinite w3) (g3 : AllFinite b3) (hu1 : AllFinite u1) (hc1 : AllFinite c1) (hu2 : AllFinite u2) (hc2 : AllFinite c2)
    (hu3 : AllFinite u3) (hc3 : AllFinite c3) (hs1 : AllFinite s1) (hd1 : AllFinite d1) (hs2 : AllFinite s2) (hd2 : AllFinite d2)
    (hs3 : AllFinite s3) (hd3 : AllFinite d3) (q : Fin 128 → Fin 8) (f : Fin 128) :
    Finite (score x factors seg w1 b1 w2 b2 w3 b3 aw ab u1 c1 u2 c2 u3 c3 s1 d1 s2 d2 s3 d3 q f) :=
  mlp_finite (pair_finite (pooled_finite seg aw ab hx h1 g1 h2 g2 h3 g3 (q f))
    (mlp_finite (fun _ => hf _) hu1 hc1 hu2 hc2 hu3 hc3)) hs1 hd1 hs2 hd2 hs3 hd3 0

end Scores

end Cert.Spec

end
-- ==== Proof.RefLanding.lean ====
/- The reference's scatters and gathers, read at an index. -/
module

public import proofs.«01_k».proof.Proof.Layers
public import proofs.«01_k».proof.Proof.Gen.ReferenceIdeal.Read
public import Idealize.ShloMosaic.Lib.Routing.Ops
public import Idealize.ShloMosaic.Lib.Routing.OpsPair
public import Idealize.ShloMosaic.Lib.Routing.OpsSet
public import Idealize.ShloMosaic.Lib.ValueIdxRank1
public import Idealize.ShloMosaic.Lib.SortNet.Extract

@[expose] public section

set_option maxRecDepth 16384

noncomputable section

namespace Cert.ReferenceIdeal.Landing

open Cert.ReferenceIdeal Cert.ReferenceIdeal.Gen Cert.Spec
open Idealize.ShloMosaic Idealize.ShloMosaic.TcCoe Idealize.ShloMosaic.ValueIdx Idealize.ShloMosaic.Pipeline

/-- A word read as an integer is a small number exactly when it is the number's word. -/
theorem toInt_eq_iff (w : BitVec 32) (n : Nat) (hn : n ≤ 128) : w.toInt = (n : Int) ↔ w = BitVec.ofNat 32 n := by
  have e : (BitVec.ofNat 32 n).toInt = (n : Int) := StableHlo.Predicate.toInt_ofNat_small n (by omega)
  rw [← e]
  exact BitVec.toInt_inj

/-- Entry `f` of a scatter over the groups lands at group `g` exactly when its word is `g`. -/
theorem lands_group (idx : IVec S128x1 32) (f : Fin 128) (g : Fin 8) :
    scatter_S8_S128x1_S128_n_0_0_1.resultIdx? (ix1 f) idx = some (ix1 g) ↔ idx (ix2 f 0) = BitVec.ofNat 32 g.val := by
  rw [Routing.resultIdx?_eq_some, ← toInt_eq_iff _ _ (by omega)]
  have hs : scatter_S8_S128x1_S128_n_0_0_1.start (ix1 f) idx 0 = (idx (ix2 f 0)).toInt := by
    unfold ScatterDims.start
    rw [dif_pos (by decide)]
    refine congrArg (fun i => (idx i).toInt) (funext fun a => ?_)
    match a with
    | ⟨0, _⟩ => rfl
    | ⟨1, _⟩ => rfl
  have hw : scatter_S8_S128x1_S128_n_0_0_1.window (ix1 f) 0 = 0 := rfl
  constructor
  · intro h
    have := h 0
    rw [hs, hw] at this
    simpa using this
  · intro h a
    match a with
    | ⟨0, _⟩ =>
      show scatter_S8_S128x1_S128_n_0_0_1.start (ix1 f) idx 0 + (scatter_S8_S128x1_S128_n_0_0_1.window (ix1 f) 0 : Int) = _
      rw [hs, hw, h]
      simp

/-- Entry `(r, k)` of the scatter of the rows lands at `(g, c)` exactly when the row's word is `g` and `k` is `c`. -/
theorem lands_row (idx : IVec S1048576x1 32) (r : Fin 1048576) (k : Fin 64) (g : Fin 8) (c : Fin 64) :
    scatter_S8x64_S1048576x1_S1048576x64_1_0_0_1.resultIdx? (ix2 r k) idx = some (ix2 g c)
      ↔ idx (ix2 r 0) = BitVec.ofNat 32 g.val ∧ k = c := by
  rw [Routing.resultIdx?_ix2, ← toInt_eq_iff _ _ (by omega)]
  have hs : scatter_S8x64_S1048576x1_S1048576x64_1_0_0_1.start (ix2 r k) idx 0 = (idx (ix2 r 0)).toInt := by
    unfold ScatterDims.start
    rw [dif_pos (by decide)]
    refine congrArg (fun i => (idx i).toInt) (funext fun a => ?_)
    match a with
    | ⟨0, _⟩ => rfl
    | ⟨1, _⟩ => rfl
  have hs1 : scatter_S8x64_S1048576x1_S1048576x64_1_0_0_1.start (ix2 r k) idx 1 = 0 := by
    unfold ScatterDims.start
    rw [dif_neg (by decide)]
  have hw : scatter_S8x64_S1048576x1_S1048576x64_1_0_0_1.window (ix2 r k) 0 = 0 := rfl
  have hw1 : scatter_S8x64_S1048576x1_S1048576x64_1_0_0_1.window (ix2 r k) 1 = k.val := rfl
  rw [hs, hs1, hw, hw1]
  refine and_congr (by simp) ?_
  rw [Fin.ext_iff]
  omega

/-- The sum a scatter of the rows leaves. -/
theorem scatterAdd_rows (x : FVec Ideal S8x64 .f32) (idx : IVec S1048576x1 32) (u : FVec Ideal S1048576x64 .f32) (g : Fin 8) (c : Fin 64) :
    Host.scatterAdd scatter_S8x64_S1048576x1_S1048576x64_1_0_0_1 x idx u (ix2 g c)
      = x (ix2 g c) + ∑ r : Fin 1048576, hot (idx (ix2 r 0)) g * u (ix2 r c) := by
  show x (ix2 g c) + ∑ j ∈ Finset.univ.filter (fun j => scatter_S8x64_S1048576x1_S1048576x64_1_0_0_1.resultIdx? j idx = some (ix2 g c)), u j = _
  refine congrArg (x (ix2 g c) + ·) ?_
  rw [Finset.sum_filter, sum_idx2]
  refine Finset.sum_congr rfl fun r _ => ?_
  rw [Finset.sum_eq_single c]
  · unfold hot
    rw [if_congr (lands_row idx r c g c) rfl rfl]
    by_cases h : idx (ix2 r 0) = BitVec.ofNat 32 g.val
    · rw [if_pos ⟨h, rfl⟩, if_pos h, one_mul]
    · rw [if_neg fun e => h e.1, if_neg h, zero_mul]
  · intro k _ hk
    rw [if_neg fun e => hk ((lands_row idx r k g c).mp e).2]
  · exact fun h => absurd (Finset.mem_univ _) h

/-- The sum a scatter over the groups leaves. -/
theorem scatterAdd_groups (x : FVec Ideal S8 .f32) (idx : IVec S128x1 32) (u : FVec Ideal S128 .f32) (g : Fin 8) :
    Host.scatterAdd scatter_S8_S128x1_S128_n_0_0_1 x idx u (ix1 g)
      = x (ix1 g) + ∑ f : Fin 128, if idx (ix2 f 0) = BitVec.ofNat 32 g.val then u (ix1 f) else 0 := by
  show x (ix1 g) + ∑ j ∈ Finset.univ.filter (fun j => scatter_S8_S128x1_S128_n_0_0_1.resultIdx? j idx = some (ix1 g)), u j = _
  refine congrArg (x (ix1 g) + ·) ?_
  rw [Finset.sum_filter, ← Equiv.sum_comp (idxEquiv1 (n := 128)).symm]
  refine Finset.sum_congr rfl fun f _ => ?_
  exact if_congr (lands_group idx f g) rfl rfl

/-- The largest word leaves the least of two words alone. -/
theorem minsi_largest (a : BitVec 32) : IntOp.minsi a 2147483647#32 = a := by
  apply BitVec.eq_of_toInt_eq
  rw [SortNet.toInt_minsi]
  have h : (2147483647#32 : BitVec 32).toInt = 2147483647 := by decide
  have := BitVec.toInt_lt (x := a)
  rw [h]
  exact min_eq_left (by simpa using Int.le_sub_one_of_lt this)

/-- Folding in only the marked entries of a list is folding in all of them with the largest word put for the others. -/
theorem foldl_marked {ι : Type} (P : ι → Prop) [DecidablePred P] (u : ι → BitVec 32) (ns : List ι) (a : BitVec 32) :
    ns.foldl (fun a n => if P n then IntOp.minsi a (u n) else a) a
      = (ns.map fun n => if P n then u n else 2147483647#32).foldl IntOp.minsi a := by
  induction ns generalizing a with
  | nil => rfl
  | cons n ns ih =>
    simp only [List.foldl_cons, List.map_cons]
    rw [ih]
    by_cases h : P n
    · rw [if_pos h, if_pos h]
    · rw [if_neg h, if_neg h, minsi_largest]

/-- The least word a scatter over the groups leaves. -/
theorem scatter_least (x : IVec S8 32) (idx : IVec S128x1 32) (u : IVec S128 32) (g : Fin 8) :
    Host.scatter scatter_S8_S128x1_S128_n_0_0_1 IntOp.minsi x idx u (ix1 g)
      = Finset.univ.fold IntOp.minsi (x (ix1 g)) fun f : Fin 128 => if idx (ix2 f 0) = BitVec.ofNat 32 g.val then u (ix1 f) else 2147483647#32 := by
  rw [Routing.scatter_at, foldl_marked, ← Multiset.coe_fold_l, ← Multiset.map_coe]
  show Finset.univ.fold IntOp.minsi (x (ix1 g)) (fun n : Fin S128.numel => if scatter_S8_S128x1_S128_n_0_0_1.resultIdx? (S128.rowMajor.symm n) idx = some (ix1 g)
    then u (S128.rowMajor.symm n) else 2147483647#32) = _
  rw [← Finset.map_univ_equiv (((idxEquiv1 (n := 128)).symm.trans S128.rowMajor)), Finset.fold_map]
  refine Finset.fold_congr fun f _ => ?_
  simp only [Function.comp_apply, Equiv.coe_toEmbedding, Equiv.trans_apply, Equiv.symm_apply_apply]
  exact if_congr (lands_group idx f g) rfl rfl

/-- A gather of the groups' values at group words. -/
theorem gather_groups {α : Type} (x : S8.Idx → α) (idx : IVec S128x1 32) (f : Fin 128) (b : Fin 8) (hb : idx (ix2 f 0) = BitVec.ofNat 32 b.val) :
    Host.gather gather_S8_S128x1_S128_n_0_n_n_0_1_1 x idx (ix1 f) = x (ix1 b) :=
  Routing.gather_take1 _ rfl rfl rfl rfl x idx f b hb (by decide)

/-- A gather of the groups' rows at group words. -/
theorem gather_rows {α : Type} (x : S8x64.Idx → α) (idx : IVec S128x1 32) (f : Fin 128) (c : Fin 64) (b : Fin 8)
    (hb : idx (ix2 f 0) = BitVec.ofNat 32 b.val) :
    Host.gather gather_S8x64_S128x1_S128x64_1_0_n_n_0_1_164 x idx (ix2 f c) = x (ix2 b c) :=
  Routing.gather_row _ rfl rfl rfl rfl rfl x idx f c b hb (by decide)

/-- A gather of the factors' values at small words. -/
theorem gather_factors {α : Type} (x : S128.Idx → α) (idx : IVec S8x1 32) (g : Fin 8) (b : Fin 128) (hb : idx (ix2 g 0) = BitVec.ofNat 32 b.val) :
    Host.gather gather_S128_S8x1_S8_n_0_n_n_0_1_1 x idx (ix1 g) = x (ix1 b) :=
  Routing.gather_take1 _ rfl rfl rfl rfl x idx g b hb (by decide)

end Cert.ReferenceIdeal.Landing

end
-- ==== Proof.RefScores.lean ====
/- The reference's scores: its three networks, its pooling and its lookup of the pooled row, read at an index. -/
module

public import proofs.«01_k».proof.Proof.RefLanding
public import proofs.«01_k».proof.Proof.KernelScores
public import Idealize.ShloMosaic.Lib.IdealHost

@[expose] public section

set_option maxRecDepth 16384

noncomputable section

namespace Cert.ReferenceIdeal.Scores

open Cert.ReferenceIdeal Cert.ReferenceIdeal.Gen Cert.ReferenceIdeal.Read Cert.ReferenceIdeal.Landing Cert.Spec
open Idealize.ShloMosaic Idealize.ShloMosaic.TcCoe Idealize.ShloMosaic.ValueIdx Idealize.ShloMosaic.Pipeline

variable (x0 : (⟨S1048576x32, .f32⟩ : BufTy).Contents (Elt Ideal)) (x1 : (⟨S128x1, .f32⟩ : BufTy).Contents (Elt Ideal))
   (x2 : (⟨S1048576, .i32⟩ : BufTy).Contents (Elt Ideal)) (x3 : (⟨S128, .i32⟩ : BufTy).Contents (Elt Ideal))
   (x4 : (⟨S64x32, .f32⟩ : BufTy).Contents (Elt Ideal)) (x5 : (⟨S64, .f32⟩ : BufTy).Contents (Elt Ideal))
   (x6 : (⟨S64x64, .f32⟩ : BufTy).Contents (Elt Ideal)) (x7 : (⟨S64, .f32⟩ : BufTy).Contents (Elt Ideal))
   (x8 : (⟨S64x64, .f32⟩ : BufTy).Contents (Elt Ideal)) (x9 : (⟨S64, .f32⟩ : BufTy).Contents (Elt Ideal))
   (x10 : (⟨S64x64, .f32⟩ : BufTy).Contents (Elt Ideal)) (x11 : (⟨S64, .f32⟩ : BufTy).Contents (Elt Ideal))
   (x12 : (⟨S64x1, .f32⟩ : BufTy).Contents (Elt Ideal)) (x13 : (⟨S64, .f32⟩ : BufTy).Contents (Elt Ideal))
   (x14 : (⟨S64x64, .f32⟩ : BufTy).Contents (Elt Ideal)) (x15 : (⟨S64, .f32⟩ : BufTy).Contents (Elt Ideal))
   (x16 : (⟨S64x64, .f32⟩ : BufTy).Contents (Elt Ideal)) (x17 : (⟨S64, .f32⟩ : BufTy).Contents (Elt Ideal))
   (x18 : (⟨S64x128, .f32⟩ : BufTy).Contents (Elt Ideal)) (x19 : (⟨S64, .f32⟩ : BufTy).Contents (Elt Ideal))
   (x20 : (⟨S64x64, .f32⟩ : BufTy).Contents (Elt Ideal)) (x21 : (⟨S64, .f32⟩ : BufTy).Contents (Elt Ideal))
   (x22 : (⟨S1x64, .f32⟩ : BufTy).Contents (Elt Ideal)) (x23 : (⟨S1, .f32⟩ : BufTy).Contents (Elt Ideal))

/-- The rows after the first network. -/
theorem rows_apply (r : Fin 1048576) (c : Fin 64) :
    val_main_v17 (F := Ideal) x0 x4 x5 x6 x7 x8 x9 (ix2 r c) = mlp (fun k => x0 (ix2 r k)) x4 x5 x6 x7 x8 x9 c :=
  host_dense (val_main_v11 (F := Ideal) x0 x4 x5 x6 x7) x8 x9 _ _ _ _ r c _ fun k =>
    host_dense (val_main_v5 (F := Ideal) x0 x4 x5) x6 x7 _ _ _ _ r k _ fun k =>
      host_dense x0 x4 x5 _ _ _ _ r k (fun k => x0 (ix2 r k)) fun _ => rfl

/-- The gated rows. -/
theorem gated_apply (r : Fin 1048576) (c : Fin 64) :
    val_main_v29 (F := Ideal) x0 x4 x5 x6 x7 x8 x9 x10 x11 (ix2 r c)
      = gated (mlp (fun k => x0 (ix2 r k)) x4 x5 x6 x7 x8 x9) x10 x11 c := by
  have h : val_main_v22 (F := Ideal) x0 x4 x5 x6 x7 x8 x9 x10 x11 (ix2 r c)
      = linear (mlp (fun k => x0 (ix2 r k)) x4 x5 x6 x7 x8 x9) x10 x11 c :=
    host_linear (val_main_v17 (F := Ideal) x0 x4 x5 x6 x7 x8 x9) x10 x11 _ _ _ r c _ fun k => rows_apply x0 x4 x5 x6 x7 x8 x9 r k
  show Ideal.div (Ideal.ofBits .f32 0x3F800000#32) (Ideal.ofBits .f32 0x3F800000#32
    + Ideal.exp (-(val_main_v22 (F := Ideal) x0 x4 x5 x6 x7 x8 x9 x10 x11 (ix2 r c)))) * val_main_v17 (F := Ideal) x0 x4 x5 x6 x7 x8 x9 (ix2 r c) = _
  rw [h, rows_apply, Ideal.ofBits_one_f32]
  rfl

/-- The reference's pooled features. -/
theorem pooled_apply (g : Fin 8) (c : Fin 64) :
    val_main_v32 (F := Ideal) x0 x2 x4 x5 x6 x7 x8 x9 x10 x11 (ix2 g c) = pooled x0 x2 x4 x5 x6 x7 x8 x9 x10 x11 g c := by
  refine (scatterAdd_rows _ _ _ g c).trans ?_
  have h0 : val_main_v30 (F := Ideal) (ix2 g c) = (0 : EReal) := Ideal.ofBits_zero_f32
  rw [h0, zero_add]
  refine Finset.sum_congr rfl fun r _ => ?_
  rw [gated_apply]
  refine congrArg (fun w => hot w g * _) ?_
  exact broadcastInDim_apply _ _ x2 (ix2 r 0) (ix1 r) fun a => match a with
    | ⟨0, _⟩ => rfl

/-- The factors' features. -/
theorem features_apply (f : Fin 128) (c : Fin 64) :
    val_main_v50 (F := Ideal) x1 x12 x13 x14 x15 x16 x17 (ix2 f c) = mlp (fun _ : Fin 1 => x1 (ix2 f 0)) x12 x13 x14 x15 x16 x17 c :=
  host_dense (val_main_v44 (F := Ideal) x1 x12 x13 x14 x15) x16 x17 _ _ _ _ f c _ fun k =>
    host_dense (val_main_v38 (F := Ideal) x1 x12 x13) x14 x15 _ _ _ _ f k _ fun k =>
      host_dense x1 x12 x13 _ _ _ _ f k (fun _ => x1 (ix2 f 0)) fun k => by rw [Subsingleton.elim k 0]

/-- The words of the groups, read off a column. -/
theorem column_apply {α : Type} (x : S128.Idx → α) (f : Fin 128) (u : Fin 1) :
    broadcastInDim S128x1 ![0] bcast_S128_S128x1_0 x (ix2 f u) = x (ix1 f) :=
  broadcastInDim_apply _ _ x (ix2 f u) (ix1 f) fun a => match a with
    | ⟨0, _⟩ => rfl

section Groups
variable (q : Fin 128 → Fin 8) (hq : ∀ f, x3 (ix1 f) = BitVec.ofNat 32 (q f).val)
include hq

/-- A group's word is not negative, so the lookup's wrapped index is the word. -/
theorem wrapped_apply (f : Fin 128) (u : Fin 1) : val_main_v56 (F := Ideal) x3 (ix2 f u) = BitVec.ofNat 32 (q f).val := by
  refine (column_apply _ f u).trans ?_
  show Scalar.select (IntOp.cmpi .slt (x3 (ix1 f)) 0#32) (IntOp.addi (x3 (ix1 f)) 8#32) (x3 (ix1 f)) = _
  rw [hq]
  generalize q f = g
  revert g
  decide

/-- The pooled row looked up for a factor. -/
theorem looked_apply (f : Fin 128) (c : Fin 64) :
    val_main_v57 (F := Ideal) x0 x2 x3 x4 x5 x6 x7 x8 x9 x10 x11 (ix2 f c) = pooled x0 x2 x4 x5 x6 x7 x8 x9 x10 x11 (q f) c :=
  (gather_rows _ _ f c (q f) (wrapped_apply x3 q hq f 0)).trans (pooled_apply x0 x2 x4 x5 x6 x7 x8 x9 x10 x11 (q f) c)

/-- The pooled row and the features side by side. -/
theorem paired_apply (f : Fin 128) (i : Fin 128) :
    val_main_v58 (F := Ideal) x0 x1 x2 x3 x4 x5 x6 x7 x8 x9 x10 x11 x12 x13 x14 x15 x16 x17 (ix2 f i)
      = pair (pooled x0 x2 x4 x5 x6 x7 x8 x9 x10 x11 (q f)) (mlp (fun _ : Fin 1 => x1 (ix2 f 0)) x12 x13 x14 x15 x16 x17) i := by
  unfold pair
  by_cases h : i.val < 64
  · rw [dif_pos h]
    refine (concatenate_pair_apply_left 1 _ _ concatenates_S128x64_S128x64_S128x128_d1 (ix2 f i) rfl (ix2 f ⟨i.val, h⟩) fun a => ?_).trans (looked_apply x0 x2 x3 x4 x5 x6 x7 x8 x9 x10 x11 q hq f ⟨i.val, h⟩)
    match a with
    | ⟨0, _⟩ => rfl
    | ⟨1, _⟩ => rfl
  · rw [dif_neg h]
    have hi : i.val - 64 < 64 := by omega
    refine (concatenate_pair_apply_right 1 _ _ concatenates_S128x64_S128x64_S128x128_d1 (ix2 f i) rfl rfl (ix2 f ⟨i.val - 64, hi⟩)
      (fun a ha => ?_) ?_).trans (features_apply x1 x12 x13 x14 x15 x16 x17 f ⟨i.val - 64, hi⟩)
    · match a, ha with
      | ⟨0, _⟩, _ => rfl
      | ⟨1, _⟩, ha => exact absurd rfl ha
    · show i.val - 64 + 64 = i.val
      omega

/-- The reference's score of a factor. -/
theorem score_apply (f : Fin 128) :
    val_main_v77 (F := Ideal) x0 x1 x2 x3 x4 x5 x6 x7 x8 x9 x10 x11 x12 x13 x14 x15 x16 x17 x18 x19 x20 x21 x22 x23 (ix1 f)
      = score x0 x1 x2 x4 x5 x6 x7 x8 x9 x10 x11 x12 x13 x14 x15 x16 x17 x18 x19 x20 x21 x22 x23 q f := by
  refine (shapeCast_apply _ _ (ix1 f) (ix2 f 0) ?_).trans ?_
  · rw [Shape.rowMajor_val_two, Shape.rowMajor_val_one]
    show f.val * 1 + 0 = f.val
    omega
  exact host_dense (val_main_v70 (F := Ideal) x0 x1 x2 x3 x4 x5 x6 x7 x8 x9 x10 x11 x12 x13 x14 x15 x16 x17 x18 x19 x20 x21) x22 x23 _ _ _ _ f (0 : Fin 1) _ fun k =>
    host_dense (val_main_v64 (F := Ideal) x0 x1 x2 x3 x4 x5 x6 x7 x8 x9 x10 x11 x12 x13 x14 x15 x16 x17 x18 x19) x20 x21 _ _ _ _ f k _ fun k =>
      host_dense (val_main_v58 (F := Ideal) x0 x1 x2 x3 x4 x5 x6 x7 x8 x9 x10 x11 x12 x13 x14 x15 x16 x17) x18 x19 _ _ _ _ f k _ fun k =>
        paired_apply x0 x1 x2 x3 x4 x5 x6 x7 x8 x9 x10 x11 x12 x13 x14 x15 x16 x17 q hq f k

end Groups

end Cert.ReferenceIdeal.Scores

end
-- ==== Proof.RefShares.lean ====
/- The reference's two results as functions of its scores. -/
module

public import proofs.«01_k».proof.Proof.RefScores
public import proofs.«01_k».proof.Proof.KernelShares

@[expose] public section

set_option maxRecDepth 16384

noncomputable section

namespace Cert.Spec

open Idealize.ShloMosaic Idealize.ShloMosaic.ValueIdx

/-- The largest of the values of group `g`, `⊥` when the group is empty. -/
def memberTop (l : Fin 128 → EReal) (q : Fin 128 → Fin 8) (g : Fin 8) : EReal :=
  Finset.univ.fold max ⊥ fun f : Fin 128 => if q f = g then l f else ⊥

/-- A factor's exponential weight within its group. -/
def memberWeight (l : Fin 128 → EReal) (q : Fin 128 → Fin 8) (f : Fin 128) : EReal := Ideal.exp (l f - memberTop l q (q f))

/-- The sum of a group's weights. -/
def memberTotal (l : Fin 128 → EReal) (q : Fin 128 → Fin 8) (g : Fin 8) : EReal :=
  ∑ f : Fin 128, if q f = g then memberWeight l q f else 0

/-- A factor's share of its group. -/
def memberShare (l : Fin 128 → EReal) (q : Fin 128 → Fin 8) (f : Fin 128) : EReal :=
  Ideal.div (memberWeight l q f) (memberTotal l q (q f))

/-- The word of the first factor of group `g` with the largest share, before it is brought into range. -/
def firstBest (l : Fin 128 → EReal) (q : Fin 128 → Fin 8) (g : Fin 8) : BitVec 32 :=
  Finset.univ.fold IntOp.minsi 2147483647#32 fun f : Fin 128 =>
    if q f = g then (if memberTop (memberShare l q) q (q f) ≤ memberShare l q f then BitVec.ofNat 32 f.val else 128#32) else 2147483647#32

/-- The word of the factor chosen for group `g`. -/
def memberChosen (l : Fin 128 → EReal) (q : Fin 128 → Fin 8) (g : Fin 8) : BitVec 32 :=
  IntOp.minsi 127#32 (IntOp.maxsi 0#32 (firstBest l q g))

end Cert.Spec

namespace Cert.ReferenceIdeal.Shares

open Cert.ReferenceIdeal Cert.ReferenceIdeal.Gen Cert.ReferenceIdeal.Read Cert.ReferenceIdeal.Landing Cert.ReferenceIdeal.Scores Cert.Spec
open Idealize.ShloMosaic Idealize.ShloMosaic.TcCoe Idealize.ShloMosaic.ValueIdx Idealize.ShloMosaic.Pipeline

variable (x0 : (⟨S1048576x32, .f32⟩ : BufTy).Contents (Elt Ideal)) (x1 : (⟨S128x1, .f32⟩ : BufTy).Contents (Elt Ideal))
   (x2 : (⟨S1048576, .i32⟩ : BufTy).Contents (Elt Ideal)) (x3 : (⟨S128, .i32⟩ : BufTy).Contents (Elt Ideal))
   (x4 : (⟨S64x32, .f32⟩ : BufTy).Contents (Elt Ideal)) (x5 : (⟨S64, .f32⟩ : BufTy).Contents (Elt Ideal))
   (x6 : (⟨S64x64, .f32⟩ : BufTy).Contents (Elt Ideal)) (x7 : (⟨S64, .f32⟩ : BufTy).Contents (Elt Ideal))
   (x8 : (⟨S64x64, .f32⟩ : BufTy).Contents (Elt Ideal)) (x9 : (⟨S64, .f32⟩ : BufTy).Contents (Elt Ideal))
   (x10 : (⟨S64x64, .f32⟩ : BufTy).Contents (Elt Ideal)) (x11 : (⟨S64, .f32⟩ : BufTy).Contents (Elt Ideal))
   (x12 : (⟨S64x1, .f32⟩ : BufTy).Contents (Elt Ideal)) (x13 : (⟨S64, .f32⟩ : BufTy).Contents (Elt Ideal))
   (x14 : (⟨S64x64, .f32⟩ : BufTy).Contents (Elt Ideal)) (x15 : (⟨S64, .f32⟩ : BufTy).Contents (Elt Ideal))
   (x16 : (⟨S64x64, .f32⟩ : BufTy).Contents (Elt Ideal)) (x17 : (⟨S64, .f32⟩ : BufTy).Contents (Elt Ideal))
   (x18 : (⟨S64x128, .f32⟩ : BufTy).Contents (Elt Ideal)) (x19 : (⟨S64, .f32⟩ : BufTy).Contents (Elt Ideal))
   (x20 : (⟨S64x64, .f32⟩ : BufTy).Contents (Elt Ideal)) (x21 : (⟨S64, .f32⟩ : BufTy).Contents (Elt Ideal))
   (x22 : (⟨S1x64, .f32⟩ : BufTy).Contents (Elt Ideal)) (x23 : (⟨S1, .f32⟩ : BufTy).Contents (Elt Ideal))
variable (q : Fin 128 → Fin 8) (hq : ∀ f, x3 (ix1 f) = BitVec.ofNat 32 (q f).val)
include hq

/-- The membership test of the reference's masks. -/
theorem member_apply (f : Fin 128) (g : Fin 8) : val_main_v83 (F := Ideal) x3 (ix2 f g) = if q f = g then 1#1 else 0#1 := by
  have e1 : val_main_v81 (F := Ideal) x3 (ix2 f g) = x3 (ix1 f) :=
    (broadcastInDim_apply _ _ _ (ix2 f g) (ix2 f 0) fun a => match a with
      | ⟨0, _⟩ => rfl
      | ⟨1, _⟩ => rfl).trans (column_apply x3 f 0)
  have e2 : val_main_v82 (F := Ideal) (ix2 f g) = BitVec.ofNat 32 g.val :=
    (broadcastInDim_apply _ _ _ (ix2 f g) (ix2 0 g) fun a => match a with
      | ⟨0, _⟩ => rfl
      | ⟨1, _⟩ => rfl).trans (broadcastInDim_apply _ _ _ (ix2 0 g) (ix1 g) fun a => match a with
      | ⟨0, _⟩ => rfl)
  show BitVec.ofBool (val_main_v81 (F := Ideal) x3 (ix2 f g) == val_main_v82 (F := Ideal) (ix2 f g)) = _
  rw [e1, e2, hq]
  by_cases h : q f = g
  · rw [if_pos h, h]; simp
  · rw [if_neg h, beq_false_of_ne fun e => h ((Cert.KernelIdeal.Scores.ofNat_inj (by decide) (q f) g).mp e)]; rfl

/-- The largest entry of each group of a vector, as the reference takes it. -/
theorem top_apply (z : FVec Ideal S128 .f32) (l : Fin 128 → EReal) (hz : ∀ f, z (ix1 f) = l f) (g : Fin 8) :
    Host.reduce FloatOps.maximumf (select (val_main_v83 (F := Ideal) x3)
        (broadcastInDim S128x8 ![0, 1] bcast_S128x1_S128x8_0_1 (broadcastInDim S128x1 ![0] bcast_S128_S128x1_0 z)) (val_main_call9_v2 (F := Ideal)))
      (val_main_cst_4 (F := Ideal)) reducesTo_S128x8_S8_d0 h_S_ (ix1 g) = memberTop l q g := by
  refine (Host.reduce_eq_fold_single (α := EReal) max _ _ _ Cert.KernelIdeal.Gen.reduces_S128x8_S8 _ (ix1 g)).trans ?_
  refine congrArg₂ (fun b y => Finset.univ.fold max b y) Cert.KernelIdeal.Shares.ofBits_bot (funext fun (f : Fin 128) => ?_)
  refine (congrArg _ (Cert.KernelIdeal.Shares.lift_col g f)).trans ?_
  have e : broadcastInDim S128x8 ![0, 1] bcast_S128x1_S128x8_0_1 (broadcastInDim S128x1 ![0] bcast_S128_S128x1_0 z) (ix2 f g) = l f :=
    ((broadcastInDim_apply _ _ _ (ix2 f g) (ix2 f 0) fun a => match a with
      | ⟨0, _⟩ => rfl
      | ⟨1, _⟩ => rfl).trans (column_apply z f 0)).trans (hz f)
  refine (congrArg₂ (fun c a => Scalar.select c a _) (member_apply x3 q hq f g) e).trans ?_
  by_cases h : q f = g
  · rw [if_pos h, if_pos h]; exact select_one _ _
  · rw [if_neg h, if_neg h]; exact (select_zero _ _).trans Cert.KernelIdeal.Shares.ofBits_bot

/-- The group maximum of the scores, looked up for a factor. -/
theorem topAt_apply (z : FVec Ideal S8 .f32) (f : Fin 128) :
    Host.gather gather_S8_S128x1_S128_n_0_n_n_0_1_1 z (val_main_v92 (F := Ideal) x3) (ix1 f) = z (ix1 (q f)) :=
  gather_groups z _ f (q f) (wrapped_apply x3 q hq f 0)

section Scores
variable (l : Fin 128 → EReal) (hl : ∀ f, val_main_v77 (F := Ideal) x0 x1 x2 x3 x4 x5 x6 x7 x8 x9 x10 x11 x12 x13 x14 x15 x16 x17 x18 x19 x20 x21 x22 x23 (ix1 f) = l f)
include hl

/-- The reference's weight of a factor. -/
theorem weight_apply (f : Fin 128) : val_main_v95 (F := Ideal) x0 x1 x2 x3 x4 x5 x6 x7 x8 x9 x10 x11 x12 x13 x14 x15 x16 x17 x18 x19 x20 x21 x22 x23 (ix1 f) = memberWeight l q f := by
  have e : val_main_v93 (F := Ideal) x0 x1 x2 x3 x4 x5 x6 x7 x8 x9 x10 x11 x12 x13 x14 x15 x16 x17 x18 x19 x20 x21 x22 x23 (ix1 f) = memberTop l q (q f) :=
    (topAt_apply x3 q hq _ f).trans (top_apply x3 q hq _ l hl (q f))
  rw [val_main_v95_apply, val_main_v94_apply, e, hl]
  rfl

/-- The reference's share of a factor. -/
theorem share_apply (f : Fin 128) : val_main_v106 (F := Ideal) x0 x1 x2 x3 x4 x5 x6 x7 x8 x9 x10 x11 x12 x13 x14 x15 x16 x17 x18 x19 x20 x21 x22 x23 (ix1 f) = memberShare l q f := by
  have e : val_main_v105 (F := Ideal) x0 x1 x2 x3 x4 x5 x6 x7 x8 x9 x10 x11 x12 x13 x14 x15 x16 x17 x18 x19 x20 x21 x22 x23 (ix1 f) = memberTotal l q (q f) := by
    refine (topAt_apply x3 q hq _ f).trans ((scatterAdd_groups _ _ _ (q f)).trans ?_)
    have h0 : val_main_v96 (F := Ideal) (ix1 (q f)) = (0 : EReal) := Ideal.ofBits_zero_f32
    rw [h0, zero_add]
    refine Finset.sum_congr rfl fun k _ => ?_
    rw [weight_apply x0 x1 x2 x3 x4 x5 x6 x7 x8 x9 x10 x11 x12 x13 x14 x15 x16 x17 x18 x19 x20 x21 x22 x23 q hq l hl]
    refine if_congr ?_ rfl rfl
    rw [← Cert.KernelIdeal.Scores.ofNat_inj (by decide) (q k) (q f), ← hq k]
    exact (column_apply x3 k 0).congr_left
  rw [val_main_v106_apply, e, weight_apply x0 x1 x2 x3 x4 x5 x6 x7 x8 x9 x10 x11 x12 x13 x14 x15 x16 x17 x18 x19 x20 x21 x22 x23 q hq l hl]
  rfl

/-- The reference's first result. -/
theorem first_result (i : S_.Idx) : val_main_v108 (F := Ideal) x0 x1 x2 x3 x4 x5 x6 x7 x8 x9 x10 x11 x12 x13 x14 x15 x16 x17 x18 x19 x20 x21 x22 x23 i = ∑ f : Fin 128, l f * memberShare l q f := by
  refine (Ideal.hostReduceAdd_total (reducesTo_S128_S_d0) (fun b => b.elim0) _ _ i).trans ?_
  have h0 : (Ideal.ofBits .f32 0x00000000#32 : EReal) = 0 := Ideal.ofBits_zero_f32
  refine (congrArg (· + _) h0).trans ((zero_add _).trans ?_)
  rw [← Equiv.sum_comp (idxEquiv1 (n := 128)).symm]
  refine Finset.sum_congr rfl fun f _ => ?_
  refine (val_main_v107_apply x0 x1 x2 x3 x4 x5 x6 x7 x8 x9 x10 x11 x12 x13 x14 x15 x16 x17 x18 x19 x20 x21 x22 x23 (ix1 f)).trans ?_
  rw [share_apply x0 x1 x2 x3 x4 x5 x6 x7 x8 x9 x10 x11 x12 x13 x14 x15 x16 x17 x18 x19 x20 x21 x22 x23 q hq l hl, hl]
  rfl

/-- The word of the first best factor of a group, as the reference takes it. -/
theorem firstBest_apply (g : Fin 8) : val_main_v130 (F := Ideal) x0 x1 x2 x3 x4 x5 x6 x7 x8 x9 x10 x11 x12 x13 x14 x15 x16 x17 x18 x19 x20 x21 x22 x23 (ix1 g) = firstBest l q g := by
  refine (scatter_least _ _ _ g).trans ?_
  refine Finset.fold_congr fun f _ => ?_
  refine if_congr ?_ ?_ rfl
  · rw [← Cert.KernelIdeal.Scores.ofNat_inj (by decide) (q f) g, ← hq f]
    exact (column_apply x3 f 0).congr_left
  · have e : val_main_v124 (F := Ideal) x0 x1 x2 x3 x4 x5 x6 x7 x8 x9 x10 x11 x12 x13 x14 x15 x16 x17 x18 x19 x20 x21 x22 x23 (ix1 f) = memberTop (memberShare l q) q (q f) :=
      (topAt_apply x3 q hq _ f).trans (top_apply x3 q hq _ (memberShare l q) (share_apply x0 x1 x2 x3 x4 x5 x6 x7 x8 x9 x10 x11 x12 x13 x14 x15 x16 x17 x18 x19 x20 x21 x22 x23 q hq l hl) (q f))
    rw [val_main_v127_apply, val_main_v125_apply, e, share_apply x0 x1 x2 x3 x4 x5 x6 x7 x8 x9 x10 x11 x12 x13 x14 x15 x16 x17 x18 x19 x20 x21 x22 x23 q hq l hl]
    have ec : FloatOps.cmpf (F := Ideal) (φ := .f32) .oge (memberShare l q f) (memberTop (memberShare l q) q (q f))
        = BitVec.ofBool (decide (memberTop (memberShare l q) q (q f) ≤ memberShare l q f)) := rfl
    rw [ec]
    by_cases h : memberTop (memberShare l q) q (q f) ≤ memberShare l q f
    · rw [if_pos h, decide_eq_true h]; exact select_one _ _
    · rw [if_neg h, decide_eq_false h]; exact select_zero _ _

/-- The reference's second result. -/
theorem second_result (g : Fin 8) (b : Fin 128) (hb : memberChosen l q g = BitVec.ofNat 32 b.val) :
    val_main_v139 (F := Ideal) x0 x1 x2 x3 x4 x5 x6 x7 x8 x9 x10 x11 x12 x13 x14 x15 x16 x17 x18 x19 x20 x21 x22 x23 (ix1 g) = x1 (ix2 b 0) := by
  have e : val_main_v132 (F := Ideal) x0 x1 x2 x3 x4 x5 x6 x7 x8 x9 x10 x11 x12 x13 x14 x15 x16 x17 x18 x19 x20 x21 x22 x23 (ix1 g) = BitVec.ofNat 32 b.val := by
    rw [← hb, val_main_v132_apply, val_main_call12_v2_apply, firstBest_apply x0 x1 x2 x3 x4 x5 x6 x7 x8 x9 x10 x11 x12 x13 x14 x15 x16 x17 x18 x19 x20 x21 x22 x23 q hq l hl]
    rfl
  have e' : val_main_v138 (F := Ideal) x0 x1 x2 x3 x4 x5 x6 x7 x8 x9 x10 x11 x12 x13 x14 x15 x16 x17 x18 x19 x20 x21 x22 x23 (ix2 g 0) = BitVec.ofNat 32 b.val := by
    refine (broadcastInDim_apply _ _ _ (ix2 g 0) (ix1 g) fun a => match a with
      | ⟨0, _⟩ => rfl).trans ?_
    rw [val_main_v137_apply, val_main_v134_apply, val_main_v136_apply, e]
    show Scalar.select (IntOp.cmpi .slt (BitVec.ofNat 32 b.val) 0#32) (IntOp.addi (BitVec.ofNat 32 b.val) 128#32) (BitVec.ofNat 32 b.val) = _
    have en : IntOp.cmpi .slt (BitVec.ofNat 32 b.val) 0#32 = 0#1 := by
      have h : (BitVec.ofNat 32 b.val).slt 0#32 = false := by
        have hi : (BitVec.ofNat 32 b.val).toInt = (b.val : Int) := StableHlo.Predicate.toInt_ofNat_small _ (by omega)
        rw [BitVec.slt, hi]
        simp
      show BitVec.ofBool ((BitVec.ofNat 32 b.val).slt 0#32) = _
      rw [h]
      rfl
    rw [en]
    exact select_zero _ _
  refine (gather_factors _ _ g b e').trans (shapeCast_apply _ _ (ix1 b) (ix2 b 0) ?_)
  rw [Shape.rowMajor_val_two, Shape.rowMajor_val_one]
  show b.val * 1 + 0 = b.val
  omega

end Scores

end Cert.ReferenceIdeal.Shares

end
-- ==== Proof.Softmax.lean ====
/- The kernel's masked shares and choices are the reference's, for real scores that are not negative. -/
module

public import proofs.«01_k».proof.Proof.Finite
public import proofs.«01_k».proof.Proof.RefShares

@[expose] public section

set_option maxRecDepth 16384

noncomputable section

namespace Cert.Spec

open Cert.KernelIdeal.Shares
open Idealize.ShloMosaic Idealize.ShloMosaic.ValueIdx

/-- The kernel's large negative number is not positive. -/
theorem low_le : low ≤ 0 := by
  have h : low = (((-1 : ℝ) * ((2 ^ 23 + 4846282 : Nat) : ℝ) * (2 : ℝ) ^ (76 : Int) : ℝ) : EReal) := by
    simp [low, Ideal.ofBits, Ideal.ieee]
  rw [h, ← EReal.coe_zero, EReal.coe_le_coe_iff]
  have : (0 : ℝ) ≤ ((2 ^ 23 + 4846282 : Nat) : ℝ) * (2 : ℝ) ^ (76 : Int) := by positivity
  linarith

/-- The kernel's small number is positive and at most one. -/
theorem tiny_bounds : 0 < tiny ∧ tiny ≤ 1 := by
  have h : tiny = ((((2 ^ 23 + 2245216 : Nat) : ℝ) * (2 : ℝ) ^ (-123 : Int) : ℝ) : EReal) := by
    simp [tiny, Ideal.ofBits, Ideal.ieee]
  rw [h, ← EReal.coe_zero, ← EReal.coe_one, EReal.coe_lt_coe_iff, EReal.coe_le_coe_iff]
  refine ⟨by positivity, ?_⟩
  norm_num

section Tops
variable (s : Fin 128 → EReal) (q : Fin 128 → Fin 8) (g : Fin 8)

/-- A group's largest value bounds exactly what bounds all of its values. -/
theorem memberTop_le_iff (c : EReal) : memberTop s q g ≤ c ↔ ∀ f, q f = g → s f ≤ c := by
  unfold memberTop
  rw [Finset.fold_max_le]
  refine ⟨fun h f hf => ?_, fun h => ⟨bot_le, fun f _ => ?_⟩⟩
  · have := h.2 f (Finset.mem_univ f)
    rwa [if_pos hf] at this
  · by_cases hf : q f = g
    · rw [if_pos hf]; exact h f hf
    · rw [if_neg hf]; exact bot_le

/-- Each value of a group is at most the group's largest. -/
theorem le_memberTop (f : Fin 128) (hf : q f = g) : s f ≤ memberTop s q g := (memberTop_le_iff s q g _).mp le_rfl f hf

/-- A group that is not empty takes its largest value. -/
theorem memberTop_attained (f₀ : Fin 128) (h₀ : q f₀ = g) : ∃ f, q f = g ∧ memberTop s q g = s f := by
  obtain ⟨f, hf, hmax⟩ := Finset.exists_max_image (Finset.univ.filter fun f => q f = g) s ⟨f₀, by simpa using h₀⟩
  have hfg : q f = g := by simpa using hf
  refine ⟨f, hfg, le_antisymm ((memberTop_le_iff s q g _).mpr fun k hk => hmax k (by simpa using hk)) (le_memberTop s q g f hfg)⟩

/-- Putting a lower bound of all values for the values of other groups changes nothing for a group that is not empty. -/
theorem filled_top (d : EReal) (hd : ∀ f, d ≤ s f) (f₀ : Fin 128) (h₀ : q f₀ = g) :
    (Finset.univ.fold max ⊥ fun f : Fin 128 => if q f = g then s f else d) = memberTop s q g := by
  refine le_antisymm ?_ ((memberTop_le_iff s q g _).mpr fun f hf => ?_)
  · rw [Finset.fold_max_le]
    refine ⟨bot_le, fun f _ => ?_⟩
    by_cases hf : q f = g
    · rw [if_pos hf]; exact le_memberTop s q g f hf
    · rw [if_neg hf]; exact (hd f₀).trans (le_memberTop s q g f₀ h₀)
  · rw [Finset.le_fold_max]
    exact Or.inr ⟨f, Finset.mem_univ f, by rw [if_pos hf]⟩

end Tops

section Shares
variable (l : Fin 128 → EReal) (q : Fin 128 → Fin 8) (hl : ∀ f, Finite (l f)) (h0 : ∀ f, 0 ≤ l f)

include hl in
/-- A member's weight is a positive real number, and `1` at the largest score. -/
theorem memberWeight_pos (f : Fin 128) : 0 < memberWeight l q f := by
  obtain ⟨k, -, hk⟩ := memberTop_attained l q (q f) f rfl
  obtain ⟨a, ha⟩ := hl f
  obtain ⟨b, hb⟩ := hl k
  unfold memberWeight
  rw [hk, ha, hb, ← EReal.coe_sub, Ideal.exp_coe, ← EReal.coe_zero, EReal.coe_lt_coe_iff]
  exact Real.exp_pos _

include hl in
/-- A member's weight is a real number. -/
theorem memberWeight_finite (f : Fin 128) : Finite (memberWeight l q f) := by
  obtain ⟨k, -, hk⟩ := memberTop_attained l q (q f) f rfl
  obtain ⟨a, ha⟩ := hl f
  obtain ⟨b, hb⟩ := hl k
  unfold memberWeight
  rw [hk, ha, hb, ← EReal.coe_sub, Ideal.exp_coe]
  exact ⟨_, rfl⟩

include hl in
/-- The weights of a group that is not empty sum to at least one. -/
theorem one_le_total (f₀ : Fin 128) : 1 ≤ memberTotal l q (q f₀) := by
  obtain ⟨k, hkg, hk⟩ := memberTop_attained l q (q f₀) f₀ rfl
  have hw : memberWeight l q k = 1 := by
    obtain ⟨b, hb⟩ := hl k
    unfold memberWeight
    rw [hkg, hk, hb, ← EReal.coe_sub, sub_self, Ideal.exp_coe, Real.exp_zero, EReal.coe_one]
  have hle := Finset.single_le_sum (f := fun f => if q f = q f₀ then memberWeight l q f else 0) (s := Finset.univ)
    (fun f _ => by
      show (0 : EReal) ≤ if q f = q f₀ then memberWeight l q f else 0
      by_cases h : q f = q f₀
      · rw [if_pos h]; exact (memberWeight_pos l q hl f).le
      · rw [if_neg h]) (Finset.mem_univ k)
  simp only [if_pos hkg, hw] at hle
  exact hle

include hl h0 in
/-- The kernel's weight of a factor in a column: the member's weight in its own group's column and zero elsewhere. -/
theorem weight_eq (f : Fin 128) (g : Fin 8) : weight l q f g = if q f = g then memberWeight l q f else 0 := by
  unfold weight
  by_cases h : q f = g
  · subst h
    rw [if_pos rfl, if_pos rfl, mul_one]
    have e : top l q (q f) = memberTop l q (q f) := filled_top l q (q f) low (fun k => low_le.trans (h0 k)) f rfl
    unfold memberWeight
    rw [e]
    refine congrArg Ideal.exp (min_eq_left ?_)
    obtain ⟨k, -, hk⟩ := memberTop_attained l q (q f) f rfl
    have hle := le_memberTop l q (q f) f rfl
    obtain ⟨a, ha⟩ := hl f
    obtain ⟨b, hb⟩ := hl k
    rw [hk, ha, hb, EReal.coe_le_coe_iff] at hle
    rw [hk, ha, hb, ← EReal.coe_sub, ← EReal.coe_zero, EReal.coe_le_coe_iff]
    linarith
  · rw [if_neg h, if_neg h, mul_zero]

include hl h0 in
/-- The kernel's share of a factor in a column: the member's share in its own group's column and zero elsewhere. -/
theorem share_eq (f : Fin 128) (g : Fin 8) : share l q f g = if q f = g then memberShare l q f else 0 := by
  have et : (∑ k, weight l q k g) = memberTotal l q g := Finset.sum_congr rfl fun k _ => weight_eq l q hl h0 k g
  unfold share
  rw [et, weight_eq l q hl h0]
  by_cases h : q f = g
  · subst h
    rw [if_pos rfl, if_pos rfl, max_eq_left (tiny_bounds.2.trans (one_le_total l q hl f))]
    rfl
  · rw [if_neg h, if_neg h]
    have hne : max (memberTotal l q g) tiny ≠ 0 := (lt_of_lt_of_le tiny_bounds.1 (le_max_right _ _)).ne'
    rw [Ideal.div, if_neg hne, zero_mul]

include hl in
/-- A share is not negative. -/
theorem memberShare_nonneg (f : Fin 128) : 0 ≤ memberShare l q f := by
  have h1 := one_le_total l q hl f
  have hne : memberTotal l q (q f) ≠ 0 := (lt_of_lt_of_le zero_lt_one h1).ne'
  have ht : Finite (memberTotal l q (q f)) := Finite.sum _ _ fun k => by
    by_cases h : q k = q f
    · rw [if_pos h]; exact memberWeight_finite l q hl k
    · rw [if_neg h]; exact Finite.zero
  have hw := memberWeight_pos l q hl f
  obtain ⟨b, hb⟩ := ht
  obtain ⟨a, ha⟩ := memberWeight_finite l q hl f
  unfold memberShare
  rw [Ideal.div, if_neg hne, hb, ha, ← EReal.coe_inv, ← EReal.coe_mul, ← EReal.coe_zero, EReal.coe_le_coe_iff]
  rw [ha, ← EReal.coe_zero, EReal.coe_lt_coe_iff] at hw
  rw [hb, ← EReal.coe_one, EReal.coe_le_coe_iff] at h1
  exact mul_nonneg hw.le (inv_nonneg.mpr (zero_le_one.trans h1))

include hl h0 in
/-- The first results agree. -/
theorem improvement_eq : (∑ g : Fin 8, ∑ f : Fin 128, l f * share l q f g) = ∑ f : Fin 128, l f * memberShare l q f := by
  rw [Finset.sum_comm]
  refine Finset.sum_congr rfl fun f _ => ?_
  rw [Finset.sum_eq_single (q f)]
  · rw [share_eq l q hl h0, if_pos rfl]
  · intro g _ hg
    rw [share_eq l q hl h0, if_neg (Ne.symm hg), mul_zero]
  · exact fun h => absurd (Finset.mem_univ _) h

/-- The integer read from the least of a family of words bounds from below as the family does. -/
theorem le_toInt_fold (b : BitVec 32) (u : Fin 128 → BitVec 32) (c : Int) :
    c ≤ (Finset.univ.fold IntOp.minsi b u).toInt ↔ c ≤ b.toInt ∧ ∀ f, c ≤ (u f).toInt := by
  have e := Finset.fold_hom (op := (IntOp.minsi : BitVec 32 → BitVec 32 → BitVec 32)) (op' := (min : Int → Int → Int)) (b := b) (f := u)
    (s := Finset.univ) (m := BitVec.toInt) (fun x y => SortNet.toInt_minsi x y)
  rw [← e, Finset.le_fold_min]
  simp

include hl h0 in
/-- The kernel's largest share of a group that is not empty is the reference's. -/
theorem best_eq (f : Fin 128) : best l q (q f) = memberTop (memberShare l q) q (q f) := by
  rw [← filled_top (memberShare l q) q (q f) 0 (memberShare_nonneg l q hl) f rfl]
  exact Finset.fold_congr fun k _ => share_eq l q hl h0 k (q f)

include hl h0 in
/-- The chosen factors agree. -/
theorem chosen_eq (g : Fin 8) : chosen l q g = memberChosen l q g := by
  apply BitVec.eq_of_toInt_eq
  unfold chosen memberChosen
  have i127 : (127#32 : BitVec 32).toInt = 127 := by decide
  have i128 : (128#32 : BitVec 32).toInt = 128 := by decide
  have i0 : (0#32 : BitVec 32).toInt = 0 := by decide
  have im : (2147483647#32 : BitVec 32).toInt = 2147483647 := by decide
  have ifn : ∀ f : Fin 128, (BitVec.ofNat 32 f.val).toInt = (f.val : Int) := fun f => StableHlo.Predicate.toInt_ofNat_small _ (by omega)
  rw [SortNet.toInt_minsi, SortNet.toInt_minsi, SortNet.toInt_maxsi, i127, i0]
  have hpos : 0 ≤ (firstBest l q g).toInt := by
    unfold firstBest
    rw [le_toInt_fold, im]
    refine ⟨by decide, fun f => ?_⟩
    split_ifs
    · rw [ifn]; omega
    · rw [i128]; decide
    · rw [im]; decide
  rw [max_eq_right hpos, min_comm]
  refine eq_of_forall_le_iff fun c => ?_
  rw [le_min_iff, le_min_iff]
  refine and_congr_right fun hc => ?_
  unfold firstBest
  rw [le_toInt_fold, le_toInt_fold]
  refine and_congr_right fun _ => forall_congr' fun f => ?_
  by_cases h : q f = g
  · subst h
    rw [best_eq l q hl h0, share_eq l q hl h0, if_pos rfl, if_pos rfl]
    simp only [true_and]
  · rw [if_neg (fun e => h e.1), if_neg h, i128, im]
    exact ⟨fun _ => by omega, fun _ => by omega⟩

/-- The chosen word is a factor's. -/
theorem memberChosen_factor (g : Fin 8) : ∃ b : Fin 128, memberChosen l q g = BitVec.ofNat 32 b.val := by
  have i127 : (127#32 : BitVec 32).toInt = 127 := by decide
  have i0 : (0#32 : BitVec 32).toInt = 0 := by decide
  have hi : (memberChosen l q g).toInt = min 127 (max 0 (firstBest l q g).toInt) := by
    unfold memberChosen
    rw [SortNet.toInt_minsi, SortNet.toInt_maxsi, i127, i0]
  have hn : 0 ≤ (memberChosen l q g).toInt := by rw [hi]; exact le_min (by decide) (le_max_left _ _)
  have hm : (memberChosen l q g).toInt ≤ 127 := by rw [hi]; exact min_le_left _ _
  obtain ⟨n, hn'⟩ := Int.eq_ofNat_of_zero_le hn
  have hlt : n < 128 := by omega
  refine ⟨⟨n, hlt⟩, BitVec.eq_of_toInt_eq ?_⟩
  rw [hn']
  exact (StableHlo.Predicate.toInt_ofNat_small n (by omega)).symm

include hl h0 in
/-- The kernel's sum of the factors against its choice picks the chosen factor. -/
theorem picked_eq (factor : Fin 128 → EReal) (g : Fin 8) (b : Fin 128) (hb : memberChosen l q g = BitVec.ofNat 32 b.val) :
    (∑ f : Fin 128, (if BitVec.ofNat 32 f.val = chosen l q g then 1 else 0) * factor f) = factor b := by
  rw [chosen_eq l q hl h0, hb, Finset.sum_eq_single b]
  · rw [if_pos rfl, one_mul]
  · intro f _ hf
    rw [if_neg fun e => hf ((Cert.KernelIdeal.Scores.ofNat_inj (by decide) f b).mp e), zero_mul]
  · exact fun h => absurd (Finset.mem_univ _) h

end Shares

end Cert.Spec

end
-- ==== Proof.PreReads.lean ====
/- What the precondition says: real arguments, and group words that name groups. -/
module

public import proofs.«01_k».proof.Pre_finite_and_in_range
public import proofs.«01_k».proof.Proof.Finite
public import Idealize.ShloMosaic.Lib.ReduceAll
public import Idealize.ShloMosaic.Lib.ValueIdx
public import Idealize.ShloMosaic.Lib.StableHlo.Predicate

@[expose] public section

set_option maxRecDepth 16384

noncomputable section

namespace Cert.Pre_finite_and_in_range

open Cert.Spec
open Idealize.ShloMosaic Idealize.ShloMosaic.ValueIdx

/-- The shape relations the precondition's operations take. -/
instance shapes : Facts where
  bcast_S_S128 := by decide
  bcast_S_S1048576x32 := by decide
  reducesTo_S1048576x32_S_d0_1 := by decide
  h_S_ := by decide
  bcast_S_S128x1 := by decide
  reducesTo_S128x1_S_d0_1 := by decide
  bcast_S_S64x32 := by decide
  reducesTo_S64x32_S_d0_1 := by decide
  bcast_S_S64 := by decide
  reducesTo_S64_S_d0 := by decide
  bcast_S_S64x64 := by decide
  reducesTo_S64x64_S_d0_1 := by decide
  bcast_S_S64x1 := by decide
  reducesTo_S64x1_S_d0_1 := by decide
  bcast_S_S64x128 := by decide
  reducesTo_S64x128_S_d0_1 := by decide
  bcast_S_S1x64 := by decide
  reducesTo_S1x64_S_d0_1 := by decide
  bcast_S_S1 := by decide
  reducesTo_S1_S_d0 := by decide

/-- The conjunction of two bits is one exactly when both are. -/
theorem andi_one_iff (a b : BitVec 1) : IntOp.andi a b = 1#1 ↔ a = 1#1 ∧ b = 1#1 := by
  revert a b
  decide

/-- An extended real whose absolute value is below the top is a real number. -/
theorem finite_of_abs (x : EReal) (h : max x (-x) < ⊤) : Finite x := by
  induction x with
  | bot => exact absurd h (by simp)
  | top => exact absurd h (by simp)
  | coe r => exact ⟨r, rfl⟩

/-- An array that passes the precondition's test holds real numbers. -/
theorem finite_of_test {s : Shape} {axes : List (Fin s.rank)} (x : FVec Ideal s .f32) (hb : S_.BroadcastsInDim s (![] : Fin 0 → Fin s.rank))
    (hr : s.ReducesTo axes S_) (hu : 0 < S_.numel) (j : S_.Idx)
    (h : Host.reduce IntOp.andi (cmpf .olt (Host.absf x) (broadcastInDim s ![] hb (constant (F := Ideal) S_ .f32 0x7F800000#32))) (constantI S_ 1 1#1) hr
    hu j = 1#1) :
    AllFinite x := fun i => by
  have e := Host.reduce_andi_all _ _ hr hu j h i
  have et : Ideal.ofBits .f32 0x7F800000#32 = ⊤ := by simp [Ideal.ofBits, Ideal.ieee]
  have e' : BitVec.ofBool (decide (max (x i) (-(x i)) < Ideal.ofBits .f32 0x7F800000#32)) = 1#1 := e
  rw [et] at e'
  refine finite_of_abs (x i) ?_
  by_contra hn
  rw [decide_eq_false hn] at e'
  exact absurd e' (by decide)

variable (x0 : FVec Ideal S1048576x32 .f32) (x1 : FVec Ideal S128x1 .f32) (x2 : IVec S1048576 32) (x3 : IVec S128 32)
   (x4 : FVec Ideal S64x32 .f32) (x5 : FVec Ideal S64 .f32) (x6 : FVec Ideal S64x64 .f32) (x7 : FVec Ideal S64 .f32)
   (x8 : FVec Ideal S64x64 .f32) (x9 : FVec Ideal S64 .f32) (x10 : FVec Ideal S64x64 .f32) (x11 : FVec Ideal S64 .f32)
   (x12 : FVec Ideal S64x1 .f32) (x13 : FVec Ideal S64 .f32) (x14 : FVec Ideal S64x64 .f32) (x15 : FVec Ideal S64 .f32)
   (x16 : FVec Ideal S64x64 .f32) (x17 : FVec Ideal S64 .f32) (x18 : FVec Ideal S64x128 .f32) (x19 : FVec Ideal S64 .f32)
   (x20 : FVec Ideal S64x64 .f32) (x21 : FVec Ideal S64 .f32) (x22 : FVec Ideal S1x64 .f32) (x23 : FVec Ideal S1 .f32)

/-- A precondition that holds says that every array but the attention layer's holds real numbers. -/
theorem finite_of_pre (h : fn (F := Ideal) x0 x1 x2 x3 x4 x5 x6 x7 x8 x9 x10 x11 x12 x13 x14 x15 x16 x17 x18 x19 x20 x21 x22 x23 = fun _ => 1#1) :
    AllFinite x0 ∧ AllFinite x1 ∧ AllFinite x4 ∧ AllFinite x5 ∧ AllFinite x6 ∧ AllFinite x7 ∧ AllFinite x8 ∧ AllFinite x9 ∧ AllFinite x12 ∧ AllFinite x13 ∧
    AllFinite x14 ∧ AllFinite x15 ∧ AllFinite x16 ∧ AllFinite x17 ∧ AllFinite x18 ∧ AllFinite x19 ∧ AllFinite x20 ∧ AllFinite x21 ∧ AllFinite x22 ∧
    AllFinite x23 := by
  have e := congrFun h (ix1 (0 : Fin 128))
  simp only [fn, fn_part1, fn_part2, fn_part3, fn_part4, fn_part5, fn_part6, andi, broadcastInDim, andi_one_iff, and_assoc] at e
  obtain ⟨-, -, h0, h1, h4, h5, h6, h7, h8, h9, h12, h13, h14, h15, h16, h17, h18, h19, h20, h21, h22, h23⟩ := e
  exact ⟨finite_of_test _ _ _ _ _ h0, finite_of_test _ _ _ _ _ h1, finite_of_test _ _ _ _ _ h4, finite_of_test _ _ _ _ _ h5, finite_of_test _ _ _ _ _ h6,
    finite_of_test _ _ _ _ _ h7, finite_of_test _ _ _ _ _ h8, finite_of_test _ _ _ _ _ h9, finite_of_test _ _ _ _ _ h12, finite_of_test _ _ _ _ _ h13,
    finite_of_test _ _ _ _ _ h14, finite_of_test _ _ _ _ _ h15, finite_of_test _ _ _ _ _ h16, finite_of_test _ _ _ _ _ h17, finite_of_test _ _ _ _ _ h18,
    finite_of_test _ _ _ _ _ h19, finite_of_test _ _ _ _ _ h20, finite_of_test _ _ _ _ _ h21, finite_of_test _ _ _ _ _ h22, finite_of_test _ _ _ _ _ h23⟩

/-- A precondition that holds says that every factor's word is a group's. -/
theorem group_of_pre (h : fn (F := Ideal) x0 x1 x2 x3 x4 x5 x6 x7 x8 x9 x10 x11 x12 x13 x14 x15 x16 x17 x18 x19 x20 x21 x22 x23 = fun _ => 1#1) (f : Fin 128) :
    ∃ g : Fin 8, x3 (ix1 f) = BitVec.ofNat 32 g.val := by
  have e := congrFun h (ix1 f)
  simp only [fn, fn_part1, fn_part2, fn_part3, fn_part4, fn_part5, fn_part6, andi, andi_one_iff, and_assoc] at e
  obtain ⟨h0, h1, -⟩ := e
  have h0' : BitVec.ofBool ((0#32 : BitVec 32).sle (x3 (ix1 f))) = 1#1 := h0
  have h1' : BitVec.ofBool ((x3 (ix1 f)).slt 8#32) = 1#1 := h1
  generalize x3 (ix1 f) = w at h0' h1'
  have g0 : 0 ≤ w.toInt := by
    by_contra hn
    rw [show (0#32 : BitVec 32).sle w = false from decide_eq_false hn] at h0'
    exact absurd h0' (by decide)
  have g1 : w.toInt < 8 := by
    by_contra hn
    rw [show w.slt 8#32 = false from decide_eq_false hn] at h1'
    exact absurd h1' (by decide)
  obtain ⟨n, hn⟩ := Int.eq_ofNat_of_zero_le g0
  refine ⟨⟨n, by omega⟩, BitVec.eq_of_toInt_eq ?_⟩
  rw [hn]
  exact (StableHlo.Predicate.toInt_ofNat_small n (by omega)).symm

end Cert.Pre_finite_and_in_range

end
-- ==== Proof.Agree.lean ====
/- The kernel's two results are the reference's, for arguments the precondition admits. -/
module

public import proofs.«01_k».proof.Proof.KernelResults
public import proofs.«01_k».proof.Proof.Softmax
public import proofs.«01_k».proof.Proof.PreReads

@[expose] public section

set_option maxRecDepth 16384

noncomputable section

namespace Cert.Agree

open Cert.KernelIdeal Cert.KernelIdeal.Gen Cert.KernelIdeal.Run Cert.KernelIdeal.Results Cert.Spec
open Idealize.ShloMosaic Idealize.ShloMosaic.TcCoe Idealize.ShloMosaic.ValueIdx Idealize.ShloMosaic.Pipeline

variable (m : (ℓ : Loc nD τ sig) → Buf (Elt Ideal) ℓ) (ρ : Dev nD → PrngReg) (c : Dev nD)
  (h : Cert.Pre_finite_and_in_range.fn (F := Ideal)
      (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9)) (m ((c : Thread nD τ).loc main_arg10)) (m ((c : Thread nD τ).loc main_arg11))
      (m ((c : Thread nD τ).loc main_arg12)) (m ((c : Thread nD τ).loc main_arg13)) (m ((c : Thread nD τ).loc main_arg14))
      (m ((c : Thread nD τ).loc main_arg15)) (m ((c : Thread nD τ).loc main_arg16)) (m ((c : Thread nD τ).loc main_arg17))
      (m ((c : Thread nD τ).loc main_arg18)) (m ((c : Thread nD τ).loc main_arg19)) (m ((c : Thread nD τ).loc main_arg20))
      (m ((c : Thread nD τ).loc main_arg21)) (m ((c : Thread nD τ).loc main_arg22)) (m ((c : Thread nD τ).loc main_arg23)) = fun _ => 1#1)
include h

/-- The scores of admitted arguments are real. -/
theorem scores_real (q : Fin 128 → Fin 8) (f : Fin 128) : Finite (scores m c q f) := by
  obtain ⟨h0, h1, h4, h5, h6, h7, h8, h9, h12, h13, h14, h15, h16, h17, h18, h19, h20, h21, h22, h23⟩ :=
    Cert.Pre_finite_and_in_range.finite_of_pre _ _ _ _ _ _ _ _ _ _ _ _ _ _ _ _ _ _ _ _ _ _ _ _ h
  exact score_finite _ _ _ h0 h1 h4 h5 h6 h7 h8 h9 h12 h13 h14 h15 h16 h17 h18 h19 h20 h21 h22 h23 q f

/-- The kernel's results are the reference's. -/
theorem results_agree :
    (W5 m ρ c main_v36 : Vec Ideal S_ .f32) = Cert.ReferenceIdeal.Read.val_main_v108 (F := Ideal)
      (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9)) (m ((c : Thread nD τ).loc main_arg10)) (m ((c : Thread nD τ).loc main_arg11))
      (m ((c : Thread nD τ).loc main_arg12)) (m ((c : Thread nD τ).loc main_arg13)) (m ((c : Thread nD τ).loc main_arg14))
      (m ((c : Thread nD τ).loc main_arg15)) (m ((c : Thread nD τ).loc main_arg16)) (m ((c : Thread nD τ).loc main_arg17))
      (m ((c : Thread nD τ).loc main_arg18)) (m ((c : Thread nD τ).loc main_arg19)) (m ((c : Thread nD τ).loc main_arg20))
      (m ((c : Thread nD τ).loc main_arg21)) (m ((c : Thread nD τ).loc main_arg22)) (m ((c : Thread nD τ).loc main_arg23))
    ∧ (W5 m ρ c main_v37 : Vec Ideal S8 .f32) = Cert.ReferenceIdeal.Read.val_main_v139 (F := Ideal)
      (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9)) (m ((c : Thread nD τ).loc main_arg10)) (m ((c : Thread nD τ).loc main_arg11))
      (m ((c : Thread nD τ).loc main_arg12)) (m ((c : Thread nD τ).loc main_arg13)) (m ((c : Thread nD τ).loc main_arg14))
      (m ((c : Thread nD τ).loc main_arg15)) (m ((c : Thread nD τ).loc main_arg16)) (m ((c : Thread nD τ).loc main_arg17))
      (m ((c : Thread nD τ).loc main_arg18)) (m ((c : Thread nD τ).loc main_arg19)) (m ((c : Thread nD τ).loc main_arg20))
      (m ((c : Thread nD τ).loc main_arg21)) (m ((c : Thread nD τ).loc main_arg22)) (m ((c : Thread nD τ).loc main_arg23)) := by
  choose q hq using Cert.Pre_finite_and_in_range.group_of_pre _ _ _ _ _ _ _ _ _ _ _ _ _ _ _ _ _ _ _ _ _ _ _ _ h
  have hl := scores_real m c h q
  have h0 : ∀ f, 0 ≤ scores m c q f := fun f => score_nonneg _ _ _ q f
  have hs := Cert.ReferenceIdeal.Scores.score_apply
      (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9)) (m ((c : Thread nD τ).loc main_arg10)) (m ((c : Thread nD τ).loc main_arg11))
      (m ((c : Thread nD τ).loc main_arg12)) (m ((c : Thread nD τ).loc main_arg13)) (m ((c : Thread nD τ).loc main_arg14))
      (m ((c : Thread nD τ).loc main_arg15)) (m ((c : Thread nD τ).loc main_arg16)) (m ((c : Thread nD τ).loc main_arg17))
      (m ((c : Thread nD τ).loc main_arg18)) (m ((c : Thread nD τ).loc main_arg19)) (m ((c : Thread nD τ).loc main_arg20))
      (m ((c : Thread nD τ).loc main_arg21)) (m ((c : Thread nD τ).loc main_arg22)) (m ((c : Thread nD τ).loc main_arg23)) q hq
  refine ⟨funext fun i => ?_, funext fun i => ?_⟩
  · refine (first_result m ρ c q hq i).trans ((improvement_eq _ q hl h0).trans ?_)
    exact (Cert.ReferenceIdeal.Shares.first_result _ _ _ _ _ _ _ _ _ _ _ _ _ _ _ _ _ _ _ _ _ _ _ _ q hq _ hs i).symm
  · rw [eq_ix1 i]
    obtain ⟨b, hb⟩ := memberChosen_factor (scores m c q) q (i 0)
    refine (second_result m ρ c q hq (i 0)).trans ((picked_eq _ q hl h0 _ (i 0) b hb).trans ?_)
    exact (Cert.ReferenceIdeal.Shares.second_result _ _ _ _ _ _ _ _ _ _ _ _ _ _ _ _ _ _ _ _ _ _ _ _ q hq _ hs (i 0) b hb).symm

end Cert.Agree

end
-- ==== Proof.lean ====
/- The proof of every claim of this directory: the three frames, that the ideal program is the printed one read at the
   extended reals, and that its two results equal the reference's. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.KernelRun
public import proofs.«01_k».proof.Proof.KernelIdealRun
public import proofs.«01_k».proof.Proof.Gen.ReferenceIdeal.Run
public import proofs.«01_k».proof.Proof.Gen.ReferenceIdeal.Read
public import proofs.«01_k».proof.Proof.Agree

@[expose] public section

set_option maxRecDepth 16384

noncomputable section

namespace Cert.Proof

open Idealize.ShloMosaic Idealize.SL.Sem Idealize.ShloMosaic.TcCoe

/-- The kernel at its bit patterns ends with its arguments unchanged and every semaphore at zero. -/
theorem frame_Kernel : Cert.quiescent_Kernel := fun m ρ _ =>
  (θ_run Cert.Kernel.defs _ _).mono (fun _ h => ⟨fun c => by
    and_intros <;> exact (h.1 c).2 _ (by decide), h.2⟩) (Cert.Kernel.Run.run_results m ρ)

/-- The kernel at the extended reals ends with its arguments unchanged and every semaphore at zero. -/
theorem frame_KernelIdeal : Cert.quiescent_KernelIdeal := fun m ρ _ =>
  (θ_run Cert.KernelIdeal.defs _ _).mono (fun _ h => ⟨fun c => by
    and_intros <;> exact (h.1 c).2 _ (by decide), h.2⟩) (Cert.KernelIdeal.Run.run_results m ρ)

/-- The reference has no semaphore, so each ends at zero, with the arguments unchanged. -/
theorem frame_ReferenceIdeal : Cert.quiescent_ReferenceIdeal := fun m ρ _ =>
  (θ_run Cert.ReferenceIdeal.defs _ _).mono (fun _ h => ⟨fun c => (h c).2.2, Idealize.ShloMosaic.sem_eq_zero_of_no_sems (by decide) _⟩)
    (Cert.ReferenceIdeal.Value.run m ρ)

/-- The kernel's two results are the reference's at the extended reals, for arguments the precondition admits. -/
theorem results_equal : Cert.algebraic_KernelIdeal_ReferenceIdeal_pre_finite_and_in_range := by
  intro m ρ m' ρ' hpre hargs
  refine ⟨fun c => Cert.KernelIdeal.Run.W5 m ρ c Cert.KernelIdeal.main_v36, fun c => Cert.KernelIdeal.Run.W5 m ρ c Cert.KernelIdeal.main_v37, ?_, ?_⟩
  · refine (θ_run Cert.KernelIdeal.defs _ _).mono (fun _ h c => ?_) (Cert.KernelIdeal.Run.run_results m ρ)
    refine ⟨(h.1 c).1.1, (h.1 c).1.2, ?_⟩
    and_intros <;> exact (h.1 c).2 _ (by decide)
  · refine (θ_run Cert.ReferenceIdeal.defs _ _).mono (fun _ h c => ?_) (Cert.ReferenceIdeal.Value.run m' ρ')
    obtain ⟨e0, e1⟩ := Cert.Agree.results_agree m ρ c (hpre c)
    obtain ⟨a0, a1, a2, a3, a4, a5, a6, a7, a8, a9, a10, a11, a12, a13, a14, a15, a16, a17, a18, a19, a20, a21, a22, a23⟩ := hargs c
    rw [← a0, ← a1, ← a2, ← a3, ← a4, ← a5, ← a6, ← a7, ← a8, ← a9, ← a10, ← a11, ← a12, ← a13, ← a14, ← a15, ← a16, ← a17, ← a18, ← a19,
      ← a20, ← a21, ← a22, ← a23] at e0 e1
    exact ⟨((h c).1.trans (Cert.ReferenceIdeal.Read.val_main_v108_eq _)).trans e0.symm,
      ((h c).2.1.trans (Cert.ReferenceIdeal.Read.val_main_v139_eq _)).trans e1.symm, (h c).2.2⟩

/-- Every claim of this directory. -/
theorem claim : Cert.Claim :=
  ⟨Cert.Kernel.Gen.facts, Cert.KernelIdeal.Gen.facts, Cert.ReferenceIdeal.Gen.facts, Cert.Pre_finite_and_in_range.shapes,
    frame_Kernel, frame_KernelIdeal, fun m ρ _ => frame_KernelIdeal m ρ trivial, frame_ReferenceIdeal,
    fun m ρ _ => frame_ReferenceIdeal m ρ trivial, trivial, results_equal⟩

end Cert.Proof

end
